-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_input [hPre_finite_input : Cert.Pre_finite_input.Facts] (m : (ℓ : Loc Cert.KernelIdeal.nD Cert.KernelIdeal.τ Cert.KernelIdeal.sig) → Buf (Elt Ideal) ℓ) : Prop :=
  ∀ c : Dev Cert.KernelIdeal.nD,
    (Cert.Pre_finite_input.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_input [hPre_finite_input : Cert.Pre_finite_input.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_input.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_input [hKernelIdeal : Cert.KernelIdeal.Facts] [hPre_finite_input : Cert.Pre_finite_input.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_input m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_input [hReferenceIdeal : Cert.ReferenceIdeal.Facts] [hPre_finite_input : Cert.Pre_finite_input.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_input m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_input [hKernelIdeal : Cert.KernelIdeal.Facts] [hReferenceIdeal : Cert.ReferenceIdeal.Facts] [hPre_finite_input : Cert.Pre_finite_input.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_input m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_input : Cert.Pre_finite_input.Facts),
    quiescent_Kernel (hKernel := hKernel)
    ∧ quiescent_KernelIdeal (hKernelIdeal := hKernelIdeal)
    ∧ quiescent_KernelIdeal_pre_finite_input (hKernelIdeal := hKernelIdeal) (hPre_finite_input := hPre_finite_input)
    ∧ quiescent_ReferenceIdeal (hReferenceIdeal := hReferenceIdeal)
    ∧ quiescent_ReferenceIdeal_pre_finite_input (hReferenceIdeal := hReferenceIdeal) (hPre_finite_input := hPre_finite_input)
    ∧ preserves_Kernel_KernelIdeal
    ∧ algebraic_KernelIdeal_ReferenceIdeal_pre_finite_input (hKernelIdeal := hKernelIdeal) (hReferenceIdeal := hReferenceIdeal) (hPre_finite_input := hPre_finite_input)
-- ==== Pre_finite_input.lean ====
abbrev S8x512x256 : Shape := ⟨3, ![8, 512, 256]⟩
abbrev S8 : Shape := ⟨1, ![8]⟩
abbrev S256x128 : Shape := ⟨2, ![256, 128]⟩
abbrev S_ : Shape := ⟨0, ![]⟩

class Facts : Prop where
  bcast_S_S8x512x256 : S_.BroadcastsInDim S8x512x256 (![] : Fin 0 → Fin S8x512x256.rank)

variable [Facts]

def fn {F : FTy → Type} [FloatOps F] (main_arg0 : FVec F S8x512x256 .f32) (main_arg1 : IVec S8 32) (main_arg2 : FVec F S256x128 .f32) (main_arg3 : FVec F S256x128 .f32) : IVec S8x512x256 1 :=
  let main_cst : FVec F S_ .f32 := constant S_ .f32 0xFF800000#32
  let main_v0 : FVec F S8x512x256 .f32 := broadcastInDim S8x512x256 ![] bcast_S_S8x512x256 main_cst
  let main_v1 : IVec S8x512x256 1 := cmpf .ogt main_arg0 main_v0
  let main_cst_0 : FVec F S_ .f32 := constant S_ .f32 0x7F800000#32
  let main_v2 : FVec F S8x512x256 .f32 := broadcastInDim S8x512x256 ![] bcast_S_S8x512x256 main_cst_0
  let main_v3 : IVec S8x512x256 1 := cmpf .olt main_arg0 main_v2
  let main_v4 : IVec S8x512x256 1 := andi main_v1 main_v3
  main_v4
-- ==== Kernel.lean ====
abbrev S8x512x256 : Shape := ⟨3, ![8, 512, 256]⟩
abbrev S8 : Shape := ⟨1, ![8]⟩
abbrev S256x128 : Shape := ⟨2, ![256, 128]⟩
abbrev S8x512x512 : Shape := ⟨3, ![8, 512, 512]⟩
abbrev S4x512x512 : Shape := ⟨3, ![4, 512, 512]⟩
abbrev S512x512 : Shape := ⟨2, ![512, 512]⟩
abbrev S1 : Shape := ⟨1, ![1]⟩
abbrev S1x512x512 : Shape := ⟨3, ![1, 512, 512]⟩

abbrev nBuf : Space → Nat
  | .hbm => 4
  | .vmem => 2
  | .smem => 1
  | _ => 0

abbrev bufTy : (tb : Table) → Fin (tcTables nBuf tb) → BufTy
  | .hbm, ⟨0, _⟩ => ⟨S8x512x256, .f32⟩
  | .hbm, ⟨1, _⟩ => ⟨S256x128, .f32⟩
  | .hbm, ⟨2, _⟩ => ⟨S256x128, .f32⟩
  | .hbm, ⟨3, _⟩ => ⟨S8x512x512, .f32⟩
  | .local _ .vmem, ⟨0, _⟩ => ⟨S4x512x512, .f32⟩
  | .local _ .vmem, ⟨1, _⟩ => ⟨S4x512x512, .f32⟩
  | .local _ .smem, ⟨0, _⟩ => ⟨S8, .i32⟩
  | _, _ => ⟨S8x512x256, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c4_i32 : BitVec 32 := 4#32
  let v3 : BitVec 32 := Scalar.muli arg0 c4_i32
  let v4 : BitVec 32 := Scalar.addi v3 c0_i32
  let v5 : Index := Scalar.indexCast v4
  ![v5.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== ReferenceIdeal.lean ====
abbrev S8x512x256 : Shape := ⟨3, ![8, 512, 256]⟩
abbrev S8 : Shape := ⟨1, ![8]⟩
abbrev S256x128 : Shape := ⟨2, ![256, 128]⟩
abbrev S8x512x128 : Shape := ⟨3, ![8, 512, 128]⟩
abbrev S8x128x512 : Shape := ⟨3, ![8, 128, 512]⟩
abbrev S8x512x512 : Shape := ⟨3, ![8, 512, 512]⟩
abbrev S_ : Shape := ⟨0, ![]⟩
abbrev S8x512 : Shape := ⟨2, ![8, 512]⟩
abbrev S8x512x1 : Shape := ⟨3, ![8, 512, 1]⟩
abbrev S8x1x512 : Shape := ⟨3, ![8, 1, 512]⟩
abbrev S512 : Shape := ⟨1, ![512]⟩
abbrev S1x512 : Shape := ⟨2, ![1, 512]⟩
abbrev S8x1 : Shape := ⟨2, ![8, 1]⟩
abbrev S512x512 : Shape := ⟨2, ![512, 512]⟩
abbrev S8x256x512 : Shape := ⟨3, ![8, 256, 512]⟩
abbrev S512x1 : Shape := ⟨2, ![512, 1]⟩
abbrev S8x512x10 : Shape := ⟨3, ![8, 512, 10]⟩
abbrev S1x512x1 : Shape := ⟨3, ![1, 512, 1]⟩

abbrev nBuf : Space → Nat
  | .hbm => 207
  | .vmem => 0
  | .smem => 0
  | _ => 0

abbrev hbmTy0_0 (i : Nat) : BufTy := match i % 128 with
  | 0 => ⟨S8x512x256, .f32⟩
  | 1 => ⟨S8, .i32⟩
  | 2 => ⟨S256x128, .f32⟩
  | 3 => ⟨S256x128, .f32⟩
  | 4 => ⟨S8x512x128, .f32⟩
  | 5 => ⟨S8x512x128, .f32⟩
  | 6 => ⟨S8x128x512, .f32⟩
  | 7 => ⟨S8x512x512, .f32⟩
  | 8 => ⟨S8x512x128, .f32⟩
  | 9 => ⟨S_, .f32⟩
  | 10 => ⟨S8x512, .f32⟩
  | 11 => ⟨S8x512x1, .f32⟩
  | 12 => ⟨S8x512x1, .f32⟩
  | 13 => ⟨S8x512x128, .f32⟩
  | 14 => ⟨S_, .f32⟩
  | 15 => ⟨S8x512, .f32⟩
  | 16 => ⟨S8x512x1, .f32⟩
  | 17 => ⟨S8x512x1, .f32⟩
  | 18 => ⟨S8x1x512, .f32⟩
  | 19 => ⟨S8x512x512, .f32⟩
  | 20 => ⟨S8x512x512, .f32⟩
  | 21 => ⟨S8x512x512, .f32⟩
  | 22 => ⟨S_, .f32⟩
  | 23 => ⟨S8x512x512, .f32⟩
  | 24 => ⟨S8x512x512, .f32⟩
  | 25 => ⟨S8x512x512, .f32⟩
  | 26 => ⟨S512, .i32⟩
  | 27 => ⟨S1x512, .i32⟩
  | 28 => ⟨S8x1, .i32⟩
  | 29 => ⟨S8x512, .i32⟩
  | 30 => ⟨S8x512, .i32⟩
  | 31 => ⟨S8x512, .i1⟩
  | 32 => ⟨S8x1x512, .i1⟩
  | 33 => ⟨S_, .f32⟩
  | 34 => ⟨S_, .f32⟩
  | 35 => ⟨S8x512x512, .i1⟩
  | 36 => ⟨S512x512, .f32⟩
  | 37 => ⟨S8x512x512, .f32⟩
  | 38 => ⟨S8x512x512, .f32⟩
  | 39 => ⟨S_, .f32⟩
  | 40 => ⟨S8x512, .f32⟩
  | 41 => ⟨S8x512x1, .f32⟩
  | 42 => ⟨S8x512x512, .f32⟩
  | 43 => ⟨S8x512x512, .f32⟩
  | 44 => ⟨S8x512x512, .f32⟩
  | 45 => ⟨S_, .f32⟩
  | 46 => ⟨S8x512, .f32⟩
  | 47 => ⟨S8x512x1, .f32⟩
  | 48 => ⟨S8x512x512, .f32⟩
  | 49 => ⟨S8x512x512, .f32⟩
  | 50 => ⟨S8x512x1, .i1⟩
  | 51 => ⟨S8x1x512, .i1⟩
  | 52 => ⟨S8x512x512, .i1⟩
  | 53 => ⟨S8x512x512, .i1⟩
  | 54 => ⟨S8x512x512, .i1⟩
  | 55 => ⟨S_, .f32⟩
  | 56 => ⟨S_, .f32⟩
  | 57 => ⟨S512x512, .f32⟩
  | 58 => ⟨S8x512x512, .f32⟩
  | 59 => ⟨S8x512x512, .f32⟩
  | 60 => ⟨S8x512x256, .f32⟩
  | 61 => ⟨S_, .f32⟩
  | 62 => ⟨S8x512, .f32⟩
  | 63 => ⟨S8x512x1, .f32⟩
  | 64 => ⟨S8x1x512, .f32⟩
  | 65 => ⟨S8x512x512, .f32⟩
  | 66 => ⟨S8x512x512, .f32⟩
  | 67 => ⟨S8x512x512, .f32⟩
  | 68 => ⟨S8x256x512, .f32⟩
  | 69 => ⟨S8x512x512, .f32⟩
  | 70 => ⟨S_, .f32⟩
  | 71 => ⟨S8x512x512, .f32⟩
  | 72 => ⟨S8x512x512, .f32⟩
  | 73 => ⟨S8x512x512, .f32⟩
  | 74 => ⟨S_, .f32⟩
  | 75 => ⟨S8x512x512, .f32⟩
  | 76 => ⟨S8x512x512, .f32⟩
  | 77 => ⟨S8x512x512, .f32⟩
  | 78 => ⟨S8x512x512, .f32⟩
  | 79 => ⟨S8x512x512, .f32⟩
  | 80 => ⟨S512, .i32⟩
  | 81 => ⟨S1x512, .i32⟩
  | 82 => ⟨S8x1, .i32⟩
  | 83 => ⟨S8x512, .i32⟩
  | 84 => ⟨S8x512, .i32⟩
  | 85 => ⟨S8x512, .i1⟩
  | 86 => ⟨S8x1x512, .i1⟩
  | 87 => ⟨S_, .f32⟩
  | 88 => ⟨S_, .f32⟩
  | 89 => ⟨S8x512x512, .i1⟩
  | 90 => ⟨S512x512, .f32⟩
  | 91 => ⟨S8x512x512, .f32⟩
  | 92 => ⟨S8x512x512, .f32⟩
  | 93 => ⟨S_, .f32⟩
  | 94 => ⟨S8x512, .f32⟩
  | 95 => ⟨S8x512x1, .f32⟩
  | 96 => ⟨S8x512x512, .f32⟩
  | 97 => ⟨S8x512x512, .f32⟩
  | 98 => ⟨S8x512x512, .f32⟩
  | 99 => ⟨S_, .f32⟩
  | 100 => ⟨S8x512, .f32⟩
  | 101 => ⟨S8x512x1, .f32⟩
  | 102 => ⟨S8x512x512, .f32⟩
  | 103 => ⟨S8x512x512, .f32⟩
  | 104 => ⟨S8x512x1, .i1⟩
  | 105 => ⟨S8x1x512, .i1⟩
  | 106 => ⟨S8x512x512, .i1⟩
  | 107 => ⟨S8x512x512, .i1⟩
  | 108 => ⟨S8x512x512, .i1⟩
  | 109 => ⟨S_, .f32⟩
  | 110 => ⟨S_, .f32⟩
  | 111 => ⟨S512x512, .f32⟩
  | 112 => ⟨S8x512x512, .f32⟩
  | 113 => ⟨S8x512x512, .f32⟩
  | 114 => ⟨S_, .f32⟩
  | 115 => ⟨S8x512x512, .f32⟩
  | 116 => ⟨S8x512x512, .f32⟩
  | 117 => ⟨S8x512x512, .f32⟩
  | 118 => ⟨S512, .i32⟩
  | 119 => ⟨S512x1, .i32⟩
  | 120 => ⟨S1x512, .i32⟩
  | 121 => ⟨S512x512, .i32⟩
  | 122 => ⟨S512x512, .i32⟩
  | 123 => ⟨S512x512, .i1⟩
  | 124 => ⟨S_, .f32⟩
  | 125 => ⟨S_, .f32⟩
  | 126 => ⟨S512x512, .f32⟩
  | 127 => ⟨S8x512x512, .i1⟩
  | _ => ⟨S8x512x256, .f32⟩

abbrev hbmTy0_1 (i : Nat) : BufTy := match i % 128 with
  | 0 => ⟨S8x512x512, .f32⟩
  | 1 => ⟨S8x512x512, .f32⟩
  | 2 => ⟨S512x512, .i32⟩
  | 3 => ⟨S8x512x512, .i32⟩
  | 4 => ⟨S8x512x512, .f32⟩
  | 5 => ⟨S8x512x512, .i32⟩
  | 6 => ⟨S8x512x512, .i32⟩
  | 7 => ⟨S8x512x10, .i32⟩
  | 8 => ⟨S512x1, .i32⟩
  | 9 => ⟨S1x512x1, .i32⟩
  | 10 => ⟨S8x512x10, .i32⟩
  | 11 => ⟨S8x512x10, .i1⟩
  | 12 => ⟨S_, .i1⟩
  | 13 => ⟨S8x512, .i1⟩
  | 14 => ⟨S8x512x1, .i32⟩
  | 15 => ⟨S8x512, .i32⟩
  | 16 => ⟨S8x512, .i32⟩
  | 17 => ⟨S8x512, .i32⟩
  | 18 => ⟨S8x1x512, .i32⟩
  | 19 => ⟨S512x1, .i32⟩
  | 20 => ⟨S1x512x1, .i32⟩
  | 21 => ⟨S8x512x512, .i32⟩
  | 22 => ⟨S8x512x512, .i32⟩
  | 23 => ⟨S8x512x512, .i1⟩
  | 24 => ⟨S8x512x512, .f32⟩
  | 25 => ⟨S_, .f32⟩
  | 26 => ⟨S8x512, .f32⟩
  | 27 => ⟨S_, .f32⟩
  | 28 => ⟨S8x512, .f32⟩
  | 29 => ⟨S_, .f32⟩
  | 30 => ⟨S8x512, .f32⟩
  | 31 => ⟨S8x512, .i1⟩
  | 32 => ⟨S_, .f32⟩
  | 33 => ⟨S8x512, .f32⟩
  | 34 => ⟨S8x512, .i1⟩
  | 35 => ⟨S_, .f32⟩
  | 36 => ⟨S_, .f32⟩
  | 37 => ⟨S512, .f32⟩
  | 38 => ⟨S8x512, .f32⟩
  | 39 => ⟨S8x512, .f32⟩
  | 40 => ⟨S_, .f32⟩
  | 41 => ⟨S8x512, .f32⟩
  | 42 => ⟨S8x512, .f32⟩
  | 43 => ⟨S_, .f32⟩
  | 44 => ⟨S_, .f32⟩
  | 45 => ⟨S512, .f32⟩
  | 46 => ⟨S8x512, .f32⟩
  | 47 => ⟨S8x512, .f32⟩
  | 48 => ⟨S_, .f32⟩
  | 49 => ⟨S8x512, .f32⟩
  | 50 => ⟨S8x512, .i1⟩
  | 51 => ⟨S_, .f32⟩
  | 52 => ⟨S8x512, .f32⟩
  | 53 => ⟨S8x512, .i1⟩
  | 54 => ⟨S_, .f32⟩
  | 55 => ⟨S_, .f32⟩
  | 56 => ⟨S512, .f32⟩
  | 57 => ⟨S8x512, .f32⟩
  | 58 => ⟨S8x512, .f32⟩
  | 59 => ⟨S8x512, .f32⟩
  | 60 => ⟨S_, .f32⟩
  | 61 => ⟨S8x512, .f32⟩
  | 62 => ⟨S8x512, .f32⟩
  | 63 => ⟨S_, .f32⟩
  | 64 => ⟨S_, .f32⟩
  | 65 => ⟨S512, .f32⟩
  | 66 => ⟨S8x512, .f32⟩
  | 67 => ⟨S8x512, .f32⟩
  | 68 => ⟨S8x512x1, .f32⟩
  | 69 => ⟨S8x512x512, .f32⟩
  | 70 => ⟨S8x512x512, .f32⟩
  | 71 => ⟨S8x1x512, .f32⟩
  | 72 => ⟨S8x512x512, .f32⟩
  | 73 => ⟨S8x512x512, .f32⟩
  | 74 => ⟨S8x512x512, .f32⟩
  | 75 => ⟨S8x512x512, .f32⟩
  | 76 => ⟨S8x1x512, .f32⟩
  | 77 => ⟨S8x512x512, .f32⟩
  | 78 => ⟨S8x512x512, .f32⟩
  | _ => ⟨S8x512x256, .f32⟩

abbrev hbmTy (i : Nat) : BufTy := match i / 128 with
  | 0 => hbmTy0_0 i
  | 1 => hbmTy0_1 i
  | _ => ⟨S8x512x256, .f32⟩

abbrev bufTy : (tb : Table) → Fin (tcTables nBuf tb) → BufTy
  | .hbm, ⟨i, _⟩ => hbmTy i
  | _, _ => ⟨S8x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_0 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_v35 : Ref sig .tc := ⟨.hbm, 59, rfl⟩
abbrev main_v36 : Ref sig .tc := ⟨.hbm, 60, rfl⟩
abbrev main_cst_4 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_5 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_7 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_call4_v3 : Ref sig .tc := ⟨.hbm, 91, rfl⟩
abbrev main_v60 : Ref sig .tc := ⟨.hbm, 92, rfl⟩
abbrev main_cst_8 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_9 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_10 : Ref sig .tc := ⟨.hbm, 109, rfl⟩
abbrev main_call5_v0 : Ref sig .tc := ⟨.hbm, 110, rfl⟩
abbrev main_call5_v1 : Ref sig .tc := ⟨.hbm, 111, rfl⟩
abbrev main_call5_v2 : Ref sig .tc := ⟨.hbm, 112, rfl⟩
abbrev main_v75 : Ref sig .tc := ⟨.hbm, 113, rfl⟩
abbrev main_cst_11 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_12 : Ref sig .tc := ⟨.hbm, 124, rfl⟩
abbrev main_call6_v0 : Ref sig .tc := ⟨.hbm, 125, rfl⟩
abbrev main_call6_v1 : Ref sig .tc := ⟨.hbm, 126, rfl⟩
abbrev main_call6_v2 : Ref sig .tc := ⟨.hbm, 127, rfl⟩
abbrev main_call6_v3 : Ref sig .tc := ⟨.hbm, 128, rfl⟩
abbrev main_v85 : Ref sig .tc := ⟨.hbm, 129, rfl⟩
abbrev main_call7_v0 : Ref sig .tc := ⟨.hbm, 130, rfl⟩
abbrev main_call7_v1 : Ref sig .tc := ⟨.hbm, 131, rfl⟩
abbrev main_call7_v2_0 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_c : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_call8_v0 : Ref sig .tc := ⟨.hbm, 144, rfl⟩
abbrev main_v96 : Ref sig .tc := ⟨.hbm, 145, rfl⟩
abbrev main_call9_v0 : Ref sig .tc := ⟨.hbm, 146, rfl⟩
abbrev main_call9_v1 : Ref sig .tc := ⟨.hbm, 147, rfl⟩
abbrev main_call9_v2 : Ref sig .tc := ⟨.hbm, 148, rfl⟩
abbrev main_call9_v3 : Ref sig .tc := ⟨.hbm, 149, rfl⟩
abbrev main_call9_v4 : Ref sig .tc := ⟨.hbm, 150, rfl⟩
abbrev main_call9_v5 : Ref sig .tc := ⟨.hbm, 151, rfl⟩
abbrev main_v97 : Ref sig .tc := ⟨.hbm, 152, rfl⟩
abbrev main_cst_13 : Ref sig .tc := ⟨.hbm, 153, rfl⟩
abbrev main_v98 : Ref sig .tc := ⟨.hbm, 154, rfl⟩
abbrev main_cst_14 : Ref sig .tc := ⟨.hbm, 155, rfl⟩
abbrev main_v99 : Ref sig .tc := ⟨.hbm, 156, rfl⟩
abbrev main_cst_15 : Ref sig .tc := ⟨.hbm, 157, rfl⟩
abbrev main_v100 : Ref sig .tc := ⟨.hbm, 158, rfl⟩
abbrev main_v101 : Ref sig .tc := ⟨.hbm, 159, rfl⟩
abbrev main_cst_16 : Ref sig .tc := ⟨.hbm, 160, rfl⟩
abbrev main_v102 : Ref sig .tc := ⟨.hbm, 161, rfl⟩
abbrev main_v103 : Ref sig .tc := ⟨.hbm, 162, rfl⟩
abbrev main_cst_17 : Ref sig .tc := ⟨.hbm, 163, rfl⟩
abbrev main_call10_v0 : Ref sig .tc := ⟨.hbm, 164, rfl⟩
abbrev main_call10_v1 : Ref sig .tc := ⟨.hbm, 165, rfl⟩
abbrev main_call10_v2 : Ref sig .tc := ⟨.hbm, 166, rfl⟩
abbrev main_v104 : Ref sig .tc := ⟨.hbm, 167, rfl⟩
abbrev main_cst_18 : Ref sig .tc := ⟨.hbm, 168, rfl⟩
abbrev main_v105 : Ref sig .tc := ⟨.hbm, 169, rfl⟩
abbrev main_v106 : Ref sig .tc := ⟨.hbm, 170, rfl⟩
abbrev main_cst_19 : Ref sig .tc := ⟨.hbm, 171, rfl⟩
abbrev main_call11_v0 : Ref sig .tc := ⟨.hbm, 172, rfl⟩
abbrev main_call11_v1 : Ref sig .tc := ⟨.hbm, 173, rfl⟩
abbrev main_call11_v2 : Ref sig .tc := ⟨.hbm, 174, rfl⟩
abbrev main_v107 : Ref sig .tc := ⟨.hbm, 175, rfl⟩
abbrev main_cst_20 : Ref sig .tc := ⟨.hbm, 176, rfl⟩
abbrev main_v108 : Ref sig .tc := ⟨.hbm, 177, rfl⟩
abbrev main_v109 : Ref sig .tc := ⟨.hbm, 178, rfl⟩
abbrev main_cst_21 : Ref sig .tc := ⟨.hbm, 179, rfl⟩
abbrev main_v110 : Ref sig .tc := ⟨.hbm, 180, rfl⟩
abbrev main_v111 : Ref sig .tc := ⟨.hbm, 181, rfl⟩
abbrev main_cst_22 : Ref sig .tc := ⟨.hbm, 182, rfl⟩
abbrev main_call12_v0 : Ref sig .tc := ⟨.hbm, 183, rfl⟩
abbrev main_call12_v1 : Ref sig .tc := ⟨.hbm, 184, rfl⟩
abbrev main_call12_v2 : Ref sig .tc := ⟨.hbm, 185, rfl⟩
abbrev main_v112 : Ref sig .tc := ⟨.hbm, 186, rfl⟩
abbrev main_v113 : Ref sig .tc := ⟨.hbm, 187, rfl⟩
abbrev main_cst_23 : Ref sig .tc := ⟨.hbm, 188, rfl⟩
abbrev main_v114 : Ref sig .tc := ⟨.hbm, 189, rfl⟩
abbrev main_v115 : Ref sig .tc := ⟨.hbm, 190, rfl⟩
abbrev main_cst_24 : Ref sig .tc := ⟨.hbm, 191, rfl⟩
abbrev main_call13_v0 : Ref sig .tc := ⟨.hbm, 192, rfl⟩
abbrev main_call13_v1 : Ref sig .tc := ⟨.hbm, 193, rfl⟩
abbrev main_call13_v2 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩

abbrev nD : Nat := 1
abbrev τ : Topo := Topo.v7x

variable {F : FTy → Type} [FloatOps F]
-- ==== Proof.KernelValue.lean ====
module

public import proofs.«01_k».proof.Proof.Gen.KernelIdeal.Frame
public import Idealize.ShloMosaic.Lib.Pipeline.Value
public import Idealize.ShloMosaic.Lib.Tactic
public import Idealize.ShloMosaic.Lib.Affine
public import Idealize.ShloMosaic.PureOps.Ideal
public import Idealize.ShloMosaic.PureOps.Ideal.Laws

@[expose] public section

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- The mask at row `r`, column `c` of a batch whose length word is `w`. -/
def maskAt (w : BitVec 32) (r c : ℕ) : EReal := if r = c ∧ (r : ℤ) < max w.toInt 503 then 1 else 0

/-- The mask depends on the word and the two positions. -/
theorem maskAt_congr {w w' : BitVec 32} {r r' c c' : ℕ} (hw : w = w') (hr : r = r') (hc : c = c') : maskAt w r c = maskAt w' r' c' := by
  subst hw hr hc; rfl

/-- A small natural read back from its word as a signed integer. -/
theorem toInt_ofNat_lt {n : ℕ} (h : n < 512) : (BitVec.ofNat 32 n).toInt = n := by
  rw [BitVec.toInt_eq_toNat_cond, BitVec.toNat_ofNat, Nat.mod_eq_of_lt (by omega), if_pos (by omega)]

/-- Two small naturals have one word exactly when they are equal. -/
theorem ofNat_eq_iff {r c : ℕ} (hr : r < 512) (hc : c < 512) : BitVec.ofNat 32 r = BitVec.ofNat 32 c ↔ r = c := by
  constructor
  · intro h
    have := congrArg BitVec.toNat h
    rwa [BitVec.toNat_ofNat, BitVec.toNat_ofNat, Nat.mod_eq_of_lt (by omega), Nat.mod_eq_of_lt (by omega)] at this
  · rintro rfl; rfl

/-- The signed maximum of a word with 503. -/
theorem toInt_maxsi (w : BitVec 32) : (Scalar.maxsi w 503#32).toInt = max w.toInt 503 := by
  unfold Scalar.maxsi IntOp.maxsi
  have h : (503#32 : BitVec 32).toInt = 503 := by decide
  by_cases hw : (503#32).slt w = true
  · rw [if_pos hw]; rw [BitVec.slt_iff_toInt_lt, h] at hw; omega
  · rw [if_neg hw, h]; rw [BitVec.slt_iff_toInt_lt, h] at hw; omega

/-- The mask bit of the kernel, widened and read as an integer. -/
theorem mask_word (w : BitVec 32) {r c : ℕ} (hr : r < 512) (hc : c < 512) :
    (BitVec.setWidth 32 (IntOp.andi (IntOp.cmpi .eq (BitVec.ofNat 32 r) (BitVec.ofNat 32 c))
      (IntOp.cmpi .slt (BitVec.ofNat 32 r) (Scalar.maxsi w 503#32)))).toInt
      = if r = c ∧ (r : ℤ) < max w.toInt 503 then 1 else 0 := by
  have e1 : (BitVec.ofNat 32 r == BitVec.ofNat 32 c) = decide (r = c) := by
    rw [Bool.eq_iff_iff, beq_iff_eq, decide_eq_true_iff]; exact ofNat_eq_iff hr hc
  have e2 : (BitVec.ofNat 32 r).slt (Scalar.maxsi w 503#32) = decide ((r : ℤ) < max w.toInt 503) := by
    rw [Bool.eq_iff_iff, decide_eq_true_iff, BitVec.slt_iff_toInt_lt, toInt_ofNat_lt hr, toInt_maxsi]
  unfold IntOp.cmpi IntOp.andi
  dsimp only
  rw [e1, e2]
  by_cases h1 : r = c
  · by_cases h2 : (r : ℤ) < max w.toInt 503
    · rw [decide_eq_true h1, decide_eq_true h2, if_pos ⟨h1, h2⟩]; decide
    · rw [decide_eq_true h1, decide_eq_false h2, if_neg fun h => h2 h.2]; decide
  · rw [decide_eq_false h1, if_neg fun h => h1 h.1]
    cases decide ((r : ℤ) < max w.toInt 503) <;> decide

/-- An indicator read through the integers and the reals. -/
theorem cast_ite (P : Prop) [Decidable P] : (((if P then (1 : ℤ) else 0 : ℤ) : ℝ) : EReal) = if P then 1 else 0 := by
  by_cases h : P <;> simp [h]

/-- The value one batch's store writes, at an index of its slab. -/
theorem pay_apply (w : BitVec 32) (x : S1x512x512.Idx) :
    k0_pay4 (F := Ideal) w x = maskAt w (x 1).val (x 2).val := by
  unfold k0_pay4 k0_pay3
  dsimp only
  rw [shapeCast_addUnit_apply]
  have a0 := iota_single_apply .tc S512x512 32 0 iota_S512x512_d0_w32 fun a => x a.succ
  have a1 := iota_single_apply .tc S512x512 32 1 iota_S512x512_d1_w32 fun a => x a.succ
  unfold sitofp extui andi cmpi broadcast
  rw [a0, a1]
  refine Eq.trans (congrArg (fun n : ℤ => ((n : ℝ) : EReal)) (mask_word w (x 1).isLt (x 2).isLt)) ?_
  exact cast_ite _

/-- The offset the kernel reads the length table at. -/
theorem off_val : ∀ (i : grid0.Coords) (b : Fin 4), k0_off1 i (BitVec.ofNat 32 b.val) 0 = 4 * (i 0).val + b.val := by
  decide +kernel

/-- What the body leaves in the output block: batch `4 i + b` of the mask at slab `b`. -/
theorem out_apply (c : Dev nD) (i : grid0.Coords) (arg2 : Memref sig .tc .vmem S4x512x512 .f32) (harg2 : arg2.IsWhole)
    (x : TbBuf0 (F := Ideal) c tbM0_0) (y : S4x512x512.Idx) (k : S8.Idx) (hk : (k 0).val = 4 * (i 0).val + (y 0).val) :
    out0_A_0 c i arg2 harg2 x y = maskAt (x k) (y 1).val (y 2).val := by
  unfold out0_A_0
  rw [View.read_writes_eq_canon _ _ _ (cover0_A_0 c i arg2 harg2 x)]
  let j : Fin 4 → S8.Idx := fun b a => ⟨4 * (i 0).val + b.val, by
    have h1 : (i 0).val < 2 := (i 0).isLt
    have h2 := b.isLt
    obtain rfl : a = 0 := Subsingleton.elim _ _
    show _ < 8; omega⟩
  have hG : k = j (y 0) := funext fun a => by
    obtain rfl : a = 0 := Subsingleton.elim _ _
    exact Fin.ext hk
  rw [hG]
  refine View.canon_apply_of_pieces (fun y : S4x512x512.Idx => maskAt (x (j (y 0))) (y 1).val (y 2).val) _ (fun p hp z => ?_) y (cover0_A_0 c i arg2 harg2 x y)
  unfold kernelRun0_A at hp
  dsimp only at hp
  sl_unfold_words
  simp only [List.mem_cons, List.mem_nil_iff, or_false] at hp
  rcases hp with rfl | rfl | rfl | rfl
  · refine (pay_apply _ _).trans (congr (congr (congrArg maskAt ?_) ?_) ?_)
    · refine congrArg x (funext fun a => ?_)
      have ha : a = (0 : Fin 1) := Subsingleton.elim (α := Fin 1) a 0
      subst ha
      refine Fin.ext ?_
      have hz : (z 0).val < 1 := (z 0).isLt
      have ho := off_val i 3
      show k0_off1 i (BitVec.ofNat 32 (3 : Fin 4).val) 0 + 1 * 0 = 4 * (i 0).val + (3 + 1 * (z 0).val)
      rw [ho, show (z 0).val = 0 by omega]
      rfl
    · exact (Nat.zero_add _).trans (Nat.one_mul _) |>.symm
    · exact (Nat.zero_add _).trans (Nat.one_mul _) |>.symm
  · refine (pay_apply _ _).trans (congr (congr (congrArg maskAt ?_) ?_) ?_)
    · refine congrArg x (funext fun a => ?_)
      have ha : a = (0 : Fin 1) := Subsingleton.elim (α := Fin 1) a 0
      subst ha
      refine Fin.ext ?_
      have hz : (z 0).val < 1 := (z 0).isLt
      have ho := off_val i 2
      show k0_off1 i (BitVec.ofNat 32 (2 : Fin 4).val) 0 + 1 * 0 = 4 * (i 0).val + (2 + 1 * (z 0).val)
      rw [ho, show (z 0).val = 0 by omega]
      rfl
    · exact (Nat.zero_add _).trans (Nat.one_mul _) |>.symm
    · exact (Nat.zero_add _).trans (Nat.one_mul _) |>.symm
  · refine (pay_apply _ _).trans (congr (congr (congrArg maskAt ?_) ?_) ?_)
    · refine congrArg x (funext fun a => ?_)
      have ha : a = (0 : Fin 1) := Subsingleton.elim (α := Fin 1) a 0
      subst ha
      refine Fin.ext ?_
      have hz : (z 0).val < 1 := (z 0).isLt
      have ho := off_val i 1
      show k0_off1 i (BitVec.ofNat 32 (1 : Fin 4).val) 0 + 1 * 0 = 4 * (i 0).val + (1 + 1 * (z 0).val)
      rw [ho, show (z 0).val = 0 by omega]
      rfl
    · exact (Nat.zero_add _).trans (Nat.one_mul _) |>.symm
    · exact (Nat.zero_add _).trans (Nat.one_mul _) |>.symm
  · refine (pay_apply _ _).trans (congr (congr (congrArg maskAt ?_) ?_) ?_)
    · refine congrArg x (funext fun a => ?_)
      have ha : a = (0 : Fin 1) := Subsingleton.elim (α := Fin 1) a 0
      subst ha
      refine Fin.ext ?_
      have hz : (z 0).val < 1 := (z 0).isLt
      have ho := off_val i 0
      show k0_off1 i (BitVec.ofNat 32 (0 : Fin 4).val) 0 + 1 * 0 = 4 * (i 0).val + (0 + 1 * (z 0).val)
      rw [ho, show (z 0).val = 0 by omega]
      rfl
    · exact (Nat.zero_add _).trans (Nat.one_mul _) |>.symm
    · exact (Nat.zero_add _).trans (Nat.one_mul _) |>.symm

variable (m : (ℓ : Loc nD τ sig) → Buf (Elt Ideal) ℓ) (ρ : Dev nD → PrngReg)

/-- There is nothing to assume of the machine words. -/
theorem okM : Ok m := trivial

/-- The result array: the mask of every batch. -/
def result (c : Dev nD) : Buf (Elt Ideal) ((c : Thread nD τ).loc main_v0) :=
  fun y : S8x512x512.Idx => maskAt (m ((c : Thread nD τ).loc main_arg1) fun a => ⟨(y 0).val, by have := (y 0).isLt; fin_cases a; exact this⟩) (y 1).val (y 2).val

/-- Point `t` of the grid writes the block of batches `4 t` to `4 t + 3`. -/
theorem idx_facts : ∀ t : Fin grid0.N, cc0_transform_0 (grid0.coords t) = ![t.val, 0, 0] ∧ ((grid0.coords t) 0).val = t.val := by
  decide +kernel

/-- What a point writes back is its block of the result. -/
theorem flushed_eq (c : Dev nD) (t : Fin (cfgM m (okM m)).N) :
    (dats m (okM m) 0 c).flushed 0 t = (((cfgM m (okM m)).win 0).blk t).view.read (Elt Ideal) (result m c) := by
  show ((cfgM m (okM m)).win 0).cut (grid0.coords t) ((dats m (okM m) 0 c).after 0 t) = _
  rw [after0_0]
  obtain rfl : c = 0 := Subsingleton.elim _ _
  obtain ⟨e0, e1⟩ := idx_facts t
  funext z
  have key : ∀ (y : S4x512x512.Idx), out0_A_0 0 (grid0.coords t) (ms0_0 m (okM m) t) (hs0_0 m (okM m) t) (tbl m 0) y
      = result m 0 (fun a => ⟨(![t.val, 0, 0] : Fin 3 → ℕ) a * S4x512x512.size a + 1 * (y a).val, by
        have ht : t.val < 2 := t.isLt
        have h0 : (y 0).val < 4 := (y 0).isLt
        have h1 : (y 1).val < 512 := (y 1).isLt
        have h2 : (y 2).val < 512 := (y 2).isLt
        match a with
        | ⟨0, _⟩ => show t.val * 4 + 1 * (y 0).val < 8; omega
        | ⟨1, _⟩ => show 0 * 512 + 1 * (y 1).val < 512; omega
        | ⟨2, _⟩ => show 0 * 512 + 1 * (y 2).val < 512; omega⟩ : S8x512x512.Idx) := by
    intro y
    refine (out_apply 0 (grid0.coords t) _ _ (tbl m 0) y (fun a => ⟨t.val * 4 + 1 * (y 0).val, ?_⟩) ?_).trans ?_
    · have ht : t.val < 2 := t.isLt
      have h0 : (y 0).val < 4 := (y 0).isLt
      fin_cases a
      show _ < 8
      omega
    · show t.val * 4 + 1 * (y 0).val = _
      rw [e1]; omega
    · show maskAt _ _ _ = maskAt _ (0 * 512 + 1 * (y 1).val) (0 * 512 + 1 * (y 2).val)
      exact maskAt_congr rfl (by omega) (by omega)
  refine (key z).trans (congrArg (result m 0) ?_)
  funext a
  refine Fin.ext ?_
  have e2 : ∀ y : S4x512x512.Idx, (![t.val, 0, 0] : Fin 3 → ℕ) a * S4x512x512.size a + 1 * (y a).val
      = cc0_transform_0 (grid0.coords t) a * S4x512x512.size a + 1 * (y a).val := fun y => by rw [e0]
  exact e2 z

/-- The one window, as a block of the array, covers eight batches in two points. -/
theorem cover (i : S8x512x512.Idx) :
    ∃ t : Fin (cfgM m (okM m)).N, ((cfgM m (okM m)).win 0).flush t = true ∧ i ∈ (((cfgM m (okM m)).win 0).blk t).view.set := by
  have h0 : (i 0).val < 8 := (i 0).isLt
  have h1 : (i 1).val < 512 := (i 1).isLt
  have h2 : (i 2).val < 512 := (i 2).isLt
  have ht : (i 0).val / 4 < grid0.N := by show _ < 2; omega
  refine ⟨⟨(i 0).val / 4, ht⟩, flush0_0 _ _, ?_⟩
  show i ∈ ((View.whole main_v0).slice (((cfgM m (okM m)).win 0).rect ⟨(i 0).val / 4, ht⟩)).set
  refine Eq.mpr (congrArg (fun s => i ∈ s) (View.set_slice_whole main_v0 (((cfgM m (okM m)).win 0).rect ⟨(i 0).val / 4, ht⟩))) ?_
  refine Rect.mem_set_unit.mpr ?_
  intro a
  show cc0_transform_0 (grid0.coords ⟨(i 0).val / 4, ht⟩) a * S4x512x512.size a ≤ (i a).val ∧ (i a).val < cc0_transform_0 (grid0.coords ⟨(i 0).val / 4, ht⟩) a * S4x512x512.size a + S4x512x512.size a
  rw [(idx_facts _).1]
  match a with
  | ⟨0, _⟩ => show (i 0).val / 4 * 4 ≤ (i 0).val ∧ (i 0).val < (i 0).val / 4 * 4 + 4; omega
  | ⟨1, _⟩ => show 0 * 512 ≤ (i 1).val ∧ (i 1).val < 0 * 512 + 512; omega
  | ⟨2, _⟩ => show 0 * 512 ≤ (i 2).val ∧ (i 2).val < 0 * 512 + 512; omega

/-- So the result array ends holding the mask. -/
theorem final_o (c : Dev nD) : (dats m (okM m) 0 c).arrAt 0 (cfgM m (okM m)).N = result m c :=
  (dats m (okM m) 0 c).arrAt_eq_of_cover 0 (result m c) (fun t _ => flushed_eq m c t) (cover m)

/-- The run, read: the result array at the mask, the arguments unchanged. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 0).trans (final_o m c),
      ((h c).2 main_arg0 (by decide : main_arg0 ∈ Pipeline.restRefs sig spec0)).trans (V_main_arg0 m c), ((h c).2 main_arg1 (by decide : main_arg1 ∈ Pipeline.restRefs sig spec0)).trans (V_main_arg1 m c),
      ((h c).2 main_arg2 (by decide : main_arg2 ∈ Pipeline.restRefs sig spec0)).trans (V_main_arg2 m c), ((h c).2 main_arg3 (by decide : main_arg3 ∈ Pipeline.restRefs sig spec0)).trans (V_main_arg3 m c)⟩)
    (run_main m ρ (okM m))

end Cert.KernelIdeal.Value

end
-- ==== Proof.Reals.lean ====
/-
  Facts about the extended reals the reference's value needs: which of its numbers are finite, and where the entries of
  its masked softmax are zero and where they are positive.
-/
module

public import Idealize.ShloMosaic.PureOps.Ideal
public import Idealize.ShloMosaic.PureOps.Ideal.Laws

@[expose] public section

noncomputable section

open Idealize.ShloMosaic

namespace Cert.Reals

/-- The extended real is a real number. -/
def IsReal (x : EReal) : Prop := ∃ r : ℝ, x = (r : EReal)

/-- A number that is neither infinity is real. -/
theorem isReal_of_ne {x : EReal} (hb : x ≠ ⊥) (ht : x ≠ ⊤) : IsReal x := ⟨x.toReal, (EReal.coe_toReal ht hb).symm⟩

/-- Sums of reals are real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- Differences of reals are real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- Products of reals are real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The larger of two reals is real. -/
theorem IsReal.max {x y : EReal} (hx : IsReal x) (hy : IsReal y) : IsReal (max x y) := by
  rcases max_choice x y with h | h <;> rw [h] <;> assumption

/-- Zero is real. -/
theorem isReal_zero : IsReal 0 := ⟨0, rfl⟩

/-- A finite sum of reals is real. -/
theorem IsReal.sum {n : ℕ} {f : Fin n → EReal} (h : ∀ k, IsReal (f k)) : IsReal (∑ k, f k) :=
  Finset.sum_induction f IsReal (fun _ _ => IsReal.add) isReal_zero fun k _ => h k

/-- The square root of a nonnegative real is a nonnegative real. -/
theorem sqrt_real {x : EReal} (hx : IsReal x) (h0 : 0 ≤ x) : IsReal (Ideal.sqrt x) ∧ 0 ≤ Ideal.sqrt x := by
  obtain ⟨r, rfl⟩ := hx
  have hr : ¬ r < 0 := not_lt.mpr (by exact_mod_cast h0)
  rw [Ideal.sqrt_coe, if_neg hr]
  exact ⟨⟨_, rfl⟩, by exact_mod_cast Real.sqrt_nonneg r⟩

/-- A square is not negative. -/
theorem sq_nonneg' (a : EReal) : 0 ≤ a * a := by
  induction a with
  | bot => simp
  | top => simp
  | coe r => rw [← EReal.coe_mul]; exact_mod_cast mul_self_nonneg r

/-- A square that is zero is the square of zero. -/
theorem eq_zero_of_sq {a : EReal} (h : a * a = 0) : a = 0 := by
  rcases mul_eq_zero.mp h with h | h <;> exact h

/-- A square that is not infinite is the square of a real. -/
theorem isReal_of_sq {a : EReal} (h : a * a ≠ ⊤) : IsReal a := by
  refine isReal_of_ne ?_ ?_ <;> rintro rfl <;> simp at h

section Norm
variable {n : ℕ} (a : Fin n → EReal)

/-- The norm of a row of extended reals. -/
def norm : EReal := Ideal.sqrt (0 + ∑ k, a k * a k)

/-- The sum of squares is not negative. -/
theorem sum_sq_nonneg : 0 ≤ ∑ k, a k * a k := Finset.sum_nonneg fun k _ => sq_nonneg' _

/-- Each square is at most the sum of squares. -/
theorem sq_le_sum (k : Fin n) : a k * a k ≤ ∑ k, a k * a k :=
  Finset.single_le_sum (f := fun k => a k * a k) (fun k _ => sq_nonneg' _) (Finset.mem_univ k)

/-- A norm is infinite, or the root of the real sum of squares. -/
theorem norm_cases : (norm a = ⊤) ∨ ∃ r : ℝ, 0 ≤ r ∧ ∑ k, a k * a k = (r : EReal) ∧ norm a = (Real.sqrt r : EReal) := by
  unfold norm
  rw [zero_add]
  have h0 := sum_sq_nonneg a
  generalize ∑ k, a k * a k = S at *
  induction S with
  | bot => simp at h0
  | top => exact Or.inl rfl
  | coe r =>
    have hr : 0 ≤ r := by exact_mod_cast h0
    exact Or.inr ⟨r, hr, rfl, by rw [Ideal.sqrt_coe, if_neg (not_lt.mpr hr)]⟩

/-- A norm is not negative. -/
theorem norm_nonneg : 0 ≤ norm a := by
  rcases norm_cases a with h | ⟨r, hr, _, h⟩ <;> rw [h]
  · exact le_top
  · exact_mod_cast Real.sqrt_nonneg r

/-- A row of norm zero is zero. -/
theorem eq_zero_of_norm (h : norm a = 0) (k : Fin n) : a k = 0 := by
  rcases norm_cases a with h' | ⟨r, hr, hs, h'⟩
  · rw [h] at h'; simp at h'
  · rw [h] at h'
    have h2 : Real.sqrt r = 0 := by exact_mod_cast h'.symm
    have h3 : r = 0 := (Real.sqrt_eq_zero hr).mp h2
    have h4 := sq_le_sum a k
    rw [hs, h3] at h4
    exact eq_zero_of_sq (le_antisymm h4 (sq_nonneg' _))

/-- A row whose norm is not infinite is a row of reals, and the norm is real. -/
theorem isReal_of_norm (h : norm a ≠ ⊤) : IsReal (norm a) ∧ ∀ k, IsReal (a k) := by
  rcases norm_cases a with h' | ⟨r, hr, hs, h'⟩
  · exact absurd h' h
  · refine ⟨⟨_, h'⟩, fun k => isReal_of_sq fun hk => ?_⟩
    have h4 := sq_le_sum a k
    rw [hs, hk] at h4
    exact absurd h4 (not_le.mpr (EReal.coe_lt_top r))

end Norm

/-- A real over a positive real is real. -/
theorem div_real {x : EReal} {d : ℝ} (hx : IsReal x) (hd : 0 < d) : IsReal (Ideal.div x (d : EReal)) := by
  have h0 : (d : EReal) ≠ 0 := by exact_mod_cast hd.ne'
  unfold Ideal.div
  rw [if_neg h0, ← EReal.coe_inv]
  exact hx.mul ⟨_, rfl⟩

/-- The normalised inner product of two rows of extended reals is real, whatever the rows are: an infinite denominator
    makes it zero, and a finite one leaves finite rows or a row of zeros. -/
theorem cosine_real {n : ℕ} (a b : Fin n → EReal) {ε : ℝ} (hε : 0 < ε) :
    IsReal (Ideal.div (∑ k, a k * b k) (norm a * norm b + (ε : EReal))) := by
  have hz : ∀ r : ℝ, 0 ≤ r → (∑ k, a k * b k) = 0 → IsReal (Ideal.div (∑ k, a k * b k) ((r : EReal) + (ε : EReal))) := by
    intro r hr h
    rw [← EReal.coe_add]
    exact div_real (h ▸ isReal_zero) (by positivity)
  by_cases ha0 : norm a = 0
  · rw [ha0, zero_mul]
    exact hz 0 le_rfl (Finset.sum_eq_zero fun k _ => by rw [eq_zero_of_norm a ha0 k, zero_mul])
  by_cases hb0 : norm b = 0
  · rw [hb0, mul_zero]
    exact hz 0 le_rfl (Finset.sum_eq_zero fun k _ => by rw [eq_zero_of_norm b hb0 k, mul_zero])
  have hap : 0 < norm a := lt_of_le_of_ne (norm_nonneg a) (Ne.symm ha0)
  have hbp : 0 < norm b := lt_of_le_of_ne (norm_nonneg b) (Ne.symm hb0)
  have htop : Ideal.div (∑ k, a k * b k) ((⊤ : EReal) + (ε : EReal)) = 0 := by
    rw [EReal.top_add_coe]
    unfold Ideal.div
    rw [if_neg (by simp), EReal.inv_top, mul_zero]
  by_cases hat : norm a = ⊤
  · rw [hat, EReal.top_mul_of_pos hbp, htop]; exact isReal_zero
  by_cases hbt : norm b = ⊤
  · rw [hbt, EReal.mul_top_of_pos hap, htop]; exact isReal_zero
  obtain ⟨⟨r, hr⟩, ha⟩ := isReal_of_norm a hat
  obtain ⟨⟨s, hs⟩, hb⟩ := isReal_of_norm b hbt
  have hrp : 0 < r := by rw [hr] at hap; exact_mod_cast hap
  have hsp : 0 < s := by rw [hs] at hbp; exact_mod_cast hbp
  rw [hr, hs, ← EReal.coe_mul, ← EReal.coe_add]
  exact div_real (IsReal.sum fun k => (ha k).mul (hb k)) (by positivity)

section Softmax
variable {n : ℕ} (x : Fin n → EReal) (M : EReal) (mask : Fin n → Prop)

/-- The exponential of a real is a positive real. -/
theorem exp_real {x : EReal} (hx : IsReal x) : IsReal (Ideal.exp x) ∧ 0 < Ideal.exp x := by
  obtain ⟨r, rfl⟩ := hx
  exact ⟨⟨_, rfl⟩, by show (0 : EReal) < ((Real.exp r : ℝ) : EReal); exact_mod_cast Real.exp_pos r⟩

/-- A softmax entry of a row that is real on a nonempty mask and `-∞` off it is positive on the mask and zero off it. -/
theorem softmax_entry (hM : IsReal M) (hx : ∀ j, mask j → IsReal (x j)) (hb : ∀ j, ¬ mask j → x j = ⊥)
    (j0 : Fin n) (h0 : mask j0) (j : Fin n) :
    (mask j → 0 < Ideal.div (Ideal.exp (x j - M)) (0 + ∑ k, Ideal.exp (x k - M)))
      ∧ (¬ mask j → Ideal.div (Ideal.exp (x j - M)) (0 + ∑ k, Ideal.exp (x k - M)) = 0) := by
  have hoff : ∀ k, ¬ mask k → Ideal.exp (x k - M) = 0 := by
    intro k hk
    obtain ⟨r, rfl⟩ := hM
    rw [hb k hk, EReal.bot_sub]
    rfl
  have hon : ∀ k, mask k → IsReal (Ideal.exp (x k - M)) ∧ 0 < Ideal.exp (x k - M) := fun k hk => exp_real ((hx k hk).sub hM)
  have hreal : ∀ k, IsReal (Ideal.exp (x k - M)) := fun k => by
    by_cases hk : mask k
    · exact (hon k hk).1
    · rw [hoff k hk]; exact isReal_zero
  have hnn : ∀ k, 0 ≤ Ideal.exp (x k - M) := fun k => by
    by_cases hk : mask k
    · exact (hon k hk).2.le
    · rw [hoff k hk]
  obtain ⟨s, hs⟩ := IsReal.sum hreal
  have hsp : 0 < ∑ k, Ideal.exp (x k - M) :=
    lt_of_lt_of_le (hon j0 h0).2 (Finset.single_le_sum (f := fun k => Ideal.exp (x k - M)) (fun k _ => hnn k) (Finset.mem_univ j0))
  rw [zero_add, hs]
  rw [hs] at hsp
  have hsp' : 0 < s := by exact_mod_cast hsp
  have hs0 : (s : EReal) ≠ 0 := hsp.ne'
  unfold Ideal.div
  rw [if_neg hs0]
  refine ⟨fun hj => ?_, fun hj => ?_⟩
  · obtain ⟨⟨r, hr⟩, hp⟩ := hon j hj
    rw [hr] at hp ⊢
    have hr' : 0 < r := by exact_mod_cast hp
    rw [← EReal.coe_inv, ← EReal.coe_mul]
    have : 0 < r * s⁻¹ := by positivity
    exact_mod_cast this
  · rw [hoff j hj, zero_mul]

end Softmax

end Cert.Reals

end
-- ==== Proof.Scores.lean ====
/-
  The reference's scores read by coordinates: the normalised inner products and the distances are real, each masked
  softmax is positive on the masked square and zero off it, and so is their weighted sum off its zeroed diagonal.
-/
module

public import proofs.«01_k».proof.Proof.Gen.ReferenceIdeal.Read
public import proofs.«01_k».proof.Proof.Reals
public import Idealize.ShloMosaic.PureOps.Reduce

@[expose] public section

noncomputable section

open Idealize.ShloMosaic Idealize.ShloMosaic.ValueIdx Cert.ReferenceIdeal Cert.ReferenceIdeal.Gen Cert.ReferenceIdeal.Read Cert.Reals

namespace Cert.Scores

/-- A select reads its first value where the bit is one. -/
theorem select_ofBool {α : Type} (p : Bool) (x y : α) : Scalar.select (BitVec.ofBool p) x y = if p then x else y := by
  cases p <;> rfl

/-- Two bits joined by `and`. -/
theorem andi_ofBool (p q : Bool) : IntOp.andi (BitVec.ofBool p) (BitVec.ofBool q) = BitVec.ofBool (p && q) := by
  cases p <;> cases q <;> rfl

/-- A small natural number as a signed word. -/
theorem ofNat_toInt {n : ℕ} (h : n < 512) : (BitVec.ofNat 32 n).toInt = (n : ℤ) := by
  rw [BitVec.toInt_eq_toNat_cond, BitVec.toNat_ofNat, Nat.mod_eq_of_lt (by omega), if_pos (by omega)]

/-- Signed comparison of a small natural number with a word. -/
theorem slt_ofNat {n : ℕ} (h : n < 512) (w : BitVec 32) :
    IntOp.cmpi .slt (BitVec.ofNat 32 n) w = BitVec.ofBool (decide ((n : ℤ) < w.toInt)) := by
  show BitVec.ofBool ((BitVec.ofNat 32 n).slt w) = _
  rw [BitVec.slt, ofNat_toInt h]

/-- Equality of two small natural numbers as words. -/
theorem eq_ofNat {n k : ℕ} (hn : n < 512) (hk : k < 512) :
    IntOp.cmpi .eq (BitVec.ofNat 32 n) (BitVec.ofNat 32 k) = BitVec.ofBool (decide (n = k)) := by
  show BitVec.ofBool (BitVec.ofNat 32 n == BitVec.ofNat 32 k) = _
  refine congrArg BitVec.ofBool ?_
  rw [Bool.eq_iff_iff, beq_iff_eq, decide_eq_true_iff]
  refine ⟨fun h => ?_, fun h => by rw [h]⟩
  have := congrArg BitVec.toNat h
  rwa [BitVec.toNat_ofNat, BitVec.toNat_ofNat, Nat.mod_eq_of_lt (by omega), Nat.mod_eq_of_lt (by omega)] at this

/-- The word of `-∞`. -/
theorem word_bot : Ideal.ofBits .f32 0xFF800000#32 = ⊥ := by simp [Ideal.ofBits, Ideal.ieee]

/-- The word of `1`. -/
theorem word_one : Ideal.ofBits .f32 0x3F800000#32 = 1 := by
  simp [Ideal.ofBits, Ideal.ieee, -EReal.coe_mul]; norm_num

/-- The word of `2` is real. -/
theorem word_two : IsReal (Ideal.ofBits .f32 0x40000000#32) := by
  refine ⟨2, ?_⟩
  simp [Ideal.ofBits, Ideal.ieee, -EReal.coe_mul]; norm_num

/-- The word of one half is a positive real. -/
theorem word_half : ∃ d : ℝ, 0 < d ∧ Ideal.ofBits .f32 0x3F000000#32 = (d : EReal) := by
  refine ⟨1 / 2, by norm_num, ?_⟩
  simp [Ideal.ofBits, Ideal.ieee, -EReal.coe_mul]; norm_num

/-- The word added to the product of norms is a positive real. -/
theorem word_eps : ∃ d : ℝ, 0 < d ∧ Ideal.ofBits .f32 0x1E3CE508#32 = (d : EReal) := by
  refine ⟨(12379400 : ℝ) * (2 : ℝ) ^ (-90 : ℤ), by positivity, ?_⟩
  simp [Ideal.ofBits, Ideal.ieee, -EReal.coe_mul]

/-- A row's largest entry: it is at least each entry, and it is not `+∞` when none of them is. -/
theorem rowmax (X : S8x512x512.Idx → EReal) (init : S_.Idx → EReal) (hi : ∀ i, init i = ⊥) (b : Fin 8) (r : Fin 512) :
    (∀ k : Fin 512, X (ix3 b r k) ≤ Host.reduce (α := EReal) max X init reducesTo_S8x512x512_S8x512_d2 h_S_ (ix2 b r))
      ∧ ((∀ k : Fin 512, X (ix3 b r k) < ⊤) → Host.reduce (α := EReal) max X init reducesTo_S8x512x512_S8x512_d2 h_S_ (ix2 b r) < ⊤) := by
  have hR : S8x512x512.Reduces [2] S8x512 := by decide
  have e := Host.reduce_eq_fold_single (α := EReal) max X init reducesTo_S8x512x512_S8x512_d2 hR h_S_ (ix2 b r)
  have el : ∀ k : Fin 512, hR.lift (ix2 b r) k = ix3 b r k := fun k =>
    funext fun a => Fin.ext (by match a with | ⟨0, _⟩ => rfl | ⟨1, _⟩ => rfl | ⟨2, _⟩ => rfl)
  rw [e]
  refine ⟨fun k => ?_, fun h => ?_⟩
  · exact Finset.le_fold_max _ |>.mpr (Or.inr ⟨k, Finset.mem_univ _, le_of_eq (congrArg X (el k)).symm⟩)
  · refine (Finset.fold_max_lt _).mpr ⟨by rw [hi]; exact bot_lt_top, fun k _ => ?_⟩
    have := h k
    rw [← el k] at this
    exact this

section Values
variable (x0 : (⟨S8x512x256, .f32⟩ : BufTy).Contents (Elt Ideal)) (x1 : (⟨S8, .i32⟩ : BufTy).Contents (Elt Ideal))
  (x2 x3 : (⟨S256x128, .f32⟩ : BufTy).Contents (Elt Ideal))

/-- Position `j` is below batch `b`'s length. -/
abbrev Below (b : Fin 8) (j : Fin 512) : Prop := (j.val : ℤ) < (x1 (ix1 b)).toInt

/-- The length mask, read. -/
theorem mask1 (b : Fin 8) (j : Fin 512) : val_main_v18 (F := Ideal) x1 (ix2 b j) = BitVec.ofBool (decide (Below x1 b j)) := by
  rw [val_main_v18_apply, val_main_v16_apply, val_main_v17_apply, val_main_v15_apply, val_main_v14_apply, val_main_v13_apply]
  exact (congrArg (IntOp.cmpi .slt (BitVec.ofNat 32 j.val)) (congrArg x1 (eq_ix1 _))).trans (slt_ofNat j.isLt _)

/-- The second length mask, read. -/
theorem mask2 (b : Fin 8) (j : Fin 512) : val_main_v58 (F := Ideal) x1 (ix2 b j) = BitVec.ofBool (decide (Below x1 b j)) := by
  rw [val_main_v58_apply, val_main_v56_apply, val_main_v57_apply, val_main_v55_apply, val_main_v54_apply, val_main_v53_apply]
  exact (congrArg (IntOp.cmpi .slt (BitVec.ofNat 32 j.val)) (congrArg x1 (eq_ix1 _))).trans (slt_ofNat j.isLt _)

/-- The norm of a row of the first product. -/
theorem norm_theta (b : Fin 8) (r : Fin 512) (z : Fin 1) :
    val_main_v4 (F := Ideal) x0 x2 (ix3 b r z) = norm fun k : Fin 128 => val_main_v0 (F := Ideal) x0 x2 (ix3 b r k) := by
  rw [val_main_v4_apply, val_main_call0_v2_apply, val_main_call0_v1_apply]
  refine congrArg Ideal.sqrt (congr (congrArg (· + ·) Ideal.ofBits_zero_f32) (Finset.sum_congr rfl fun k _ => ?_))
  rw [val_main_call0_v0_apply]
  exact congrArg (fun i => val_main_v0 (F := Ideal) x0 x2 i * val_main_v0 (F := Ideal) x0 x2 i) (eq_ix3 _)

/-- The norm of a row of the second product. -/
theorem norm_phi (b : Fin 8) (r : Fin 512) (z : Fin 1) :
    val_main_v5 (F := Ideal) x0 x3 (ix3 b r z) = norm fun k : Fin 128 => val_main_v1 (F := Ideal) x0 x3 (ix3 b r k) := by
  rw [val_main_v5_apply, val_main_call1_v2_apply, val_main_call1_v1_apply]
  refine congrArg Ideal.sqrt (congr (congrArg (· + ·) Ideal.ofBits_zero_f32) (Finset.sum_congr rfl fun k _ => ?_))
  rw [val_main_call1_v0_apply]
  exact congrArg (fun i => val_main_v1 (F := Ideal) x0 x3 i * val_main_v1 (F := Ideal) x0 x3 i) (eq_ix3 _)

/-- The normalised inner products are real, whatever the arguments are. -/
theorem sim_real (b : Fin 8) (r c : Fin 512) : IsReal (val_main_v12 (F := Ideal) x0 x2 x3 (ix3 b r c)) := by
  obtain ⟨d, hd, he⟩ := word_eps
  have key := cosine_real (fun k : Fin 128 => val_main_v0 (F := Ideal) x0 x2 (ix3 b r k))
    (fun k : Fin 128 => val_main_v1 (F := Ideal) x0 x3 (ix3 b c k)) hd
  have e : val_main_v12 (F := Ideal) x0 x2 x3 (ix3 b r c)
      = Ideal.div (∑ k : Fin 128, val_main_v0 (F := Ideal) x0 x2 (ix3 b r k) * val_main_v1 (F := Ideal) x0 x3 (ix3 b c k))
          (norm (fun k : Fin 128 => val_main_v0 (F := Ideal) x0 x2 (ix3 b r k))
            * norm (fun k : Fin 128 => val_main_v1 (F := Ideal) x0 x3 (ix3 b c k)) + (d : EReal)) := by
    rw [val_main_v12_apply, val_main_v11_apply, val_main_v10_apply, val_main_v9_apply, val_main_v8_apply, val_main_v7_apply,
      val_main_v6_apply, val_main_v3_apply, val_main_cst_apply]
    refine congr (congrArg Ideal.div (Finset.sum_congr rfl fun k _ => ?_))
      (congr (congrArg (· + ·) (congr (congrArg (· * ·) ((congrArg _ (eq_ix3 _)).trans (norm_theta x0 x2 b r 0)))
        ((congrArg _ (eq_ix3 _)).trans (norm_phi x0 x3 b c 0)))) he)
    rw [val_main_v2_apply]
    exact congrArg₂ (fun p q : EReal => p * q) (congrArg (val_main_v0 (F := Ideal) x0 x2) (eq_ix3 _))
      (congrArg (val_main_v1 (F := Ideal) x0 x3) (eq_ix3 _))
  rw [e]
  exact key

/-- The distances are real and not negative when the input is real. -/
theorem dis_real (hx : ∀ i, IsReal (x0 i)) (b : Fin 8) (r c : Fin 512) : IsReal (val_main_v52 (F := Ideal) x0 (ix3 b r c)) := by
  have hsum : ∀ i, IsReal (val_main_v37 (F := Ideal) x0 i) := fun i => by
    rw [val_main_v37_apply, val_main_cst_4_apply]
    refine IsReal.add ?_ (IsReal.sum fun k => (hx _).mul (hx _))
    exact ⟨0, Ideal.ofBits_zero_f32⟩
  have hroot : ∀ i, IsReal (val_main_v50 (F := Ideal) x0 i) := fun i => by
    rw [val_main_v50_apply, val_main_v49_apply, val_main_v48_apply, val_main_v47_apply, val_main_v46_apply, val_main_v45_apply,
      val_main_v44_apply, val_main_v42_apply, val_main_v41_apply, val_main_v40_apply, val_main_v39_apply, val_main_v38_apply,
      val_main_cst_5_apply, val_main_cst_6_apply]
    have hz : IsReal (Ideal.ofBits .f32 0x00000000#32) := ⟨0, Ideal.ofBits_zero_f32⟩
    refine (sqrt_real (IsReal.max (IsReal.sub (IsReal.add (hsum _) (hsum _)) (IsReal.mul word_two (IsReal.sum fun k => ?_))) hz) ?_).1
    · rw [val_main_v43_apply]
      exact (hx _).mul (hx _)
    · exact le_trans (le_of_eq Ideal.ofBits_zero_f32.symm) (le_max_right _ _)
  rw [val_main_v52_apply, val_main_v51_apply]
  exact (hroot _).max (hroot _)

/-- The inner products masked by columns. -/
theorem masked1 (b : Fin 8) (r c : Fin 512) :
    val_main_v20 (F := Ideal) x0 x1 x2 x3 (ix3 b r c) = if Below x1 b c then val_main_v12 (F := Ideal) x0 x2 x3 (ix3 b r c) else ⊥ := by
  rw [val_main_v20_apply, val_main_call2_v1_apply, val_main_v19_apply, val_main_call2_v3_apply, val_main_call2_v2_apply,
    val_main_call2_v0_apply, val_main_cst_0_apply]
  refine (congr (congrFun (congrArg Scalar.select ((congrArg _ (eq_ix2 _)).trans (mask1 x1 b c))) _) word_bot).trans ?_
  rw [select_ofBool]
  simp only [decide_eq_true_eq]

/-- The distances masked by columns. -/
theorem masked2 (b : Fin 8) (r c : Fin 512) :
    val_main_v60 (F := Ideal) x0 x1 (ix3 b r c) = if Below x1 b c then val_main_v52 (F := Ideal) x0 (ix3 b r c) else ⊥ := by
  rw [val_main_v60_apply, val_main_call4_v1_apply, val_main_v59_apply, val_main_call4_v3_apply, val_main_call4_v2_apply,
    val_main_call4_v0_apply, val_main_cst_7_apply]
  refine (congr (congrFun (congrArg Scalar.select ((congrArg _ (eq_ix2 _)).trans (mask2 x1 b c))) _) word_bot).trans ?_
  rw [select_ofBool]
  simp only [decide_eq_true_eq]

/-- The first softmax before its mask. -/
theorem soft1 (b : Fin 8) (r c : Fin 512) :
    val_main_v29 (F := Ideal) x0 x1 x2 x3 (ix3 b r c)
      = Ideal.div (Ideal.exp (val_main_v20 (F := Ideal) x0 x1 x2 x3 (ix3 b r c) - val_main_v21 (F := Ideal) x0 x1 x2 x3 (ix2 b r)))
          (0 + ∑ k : Fin 512, Ideal.exp (val_main_v20 (F := Ideal) x0 x1 x2 x3 (ix3 b r k) - val_main_v21 (F := Ideal) x0 x1 x2 x3 (ix2 b r))) := by
  have he : ∀ c : Fin 512, val_main_v25 (F := Ideal) x0 x1 x2 x3 (ix3 b r c)
      = Ideal.exp (val_main_v20 (F := Ideal) x0 x1 x2 x3 (ix3 b r c) - val_main_v21 (F := Ideal) x0 x1 x2 x3 (ix2 b r)) := fun c => by
    rw [val_main_v25_apply, val_main_v24_apply, val_main_v23_apply, val_main_v22_apply]
    exact congrArg Ideal.exp (congrArg (val_main_v20 (F := Ideal) x0 x1 x2 x3 (ix3 b r c) - ·) (congrArg _ (eq_ix2 _)))
  rw [val_main_v29_apply, val_main_v28_apply, val_main_v27_apply, val_main_v26_apply]
  refine congr (congrArg Ideal.div (he c)) (congr (congrArg (· + ·) Ideal.ofBits_zero_f32) (Finset.sum_congr rfl fun k _ => ?_))
  exact (congrArg _ (eq_ix3 _)).trans (he k)

/-- The second softmax before its mask. -/
theorem soft2 (b : Fin 8) (r c : Fin 512) :
    val_main_v69 (F := Ideal) x0 x1 (ix3 b r c)
      = Ideal.div (Ideal.exp (val_main_v60 (F := Ideal) x0 x1 (ix3 b r c) - val_main_v61 (F := Ideal) x0 x1 (ix2 b r)))
          (0 + ∑ k : Fin 512, Ideal.exp (val_main_v60 (F := Ideal) x0 x1 (ix3 b r k) - val_main_v61 (F := Ideal) x0 x1 (ix2 b r))) := by
  have he : ∀ c : Fin 512, val_main_v65 (F := Ideal) x0 x1 (ix3 b r c)
      = Ideal.exp (val_main_v60 (F := Ideal) x0 x1 (ix3 b r c) - val_main_v61 (F := Ideal) x0 x1 (ix2 b r)) := fun c => by
    rw [val_main_v65_apply, val_main_v64_apply, val_main_v63_apply, val_main_v62_apply]
    exact congrArg Ideal.exp (congrArg (val_main_v60 (F := Ideal) x0 x1 (ix3 b r c) - ·) (congrArg _ (eq_ix2 _)))
  rw [val_main_v69_apply, val_main_v68_apply, val_main_v67_apply, val_main_v66_apply]
  refine congr (congrArg Ideal.div (he c)) (congr (congrArg (· + ·) Ideal.ofBits_zero_f32) (Finset.sum_congr rfl fun k _ => ?_))
  exact (congrArg _ (eq_ix3 _)).trans (he k)

/-- The first softmax, masked to the square. -/
theorem out1_eq (b : Fin 8) (r c : Fin 512) :
    val_main_v35 (F := Ideal) x0 x1 x2 x3 (ix3 b r c)
      = if Below x1 b r ∧ Below x1 b c then val_main_v29 (F := Ideal) x0 x1 x2 x3 (ix3 b r c) else 0 := by
  rw [val_main_v35_apply, val_main_v34_apply, val_main_v33_apply, val_main_v32_apply, val_main_v31_apply, val_main_v30_apply,
    val_main_call3_v2_apply, val_main_call3_v1_apply, val_main_call3_v0_apply, val_main_cst_3_apply]
  refine (congr (congrFun (congrArg Scalar.select ((congr (congrArg IntOp.andi ((congrArg _ (eq_ix2 _)).trans (mask1 x1 b r)))
    ((congrArg _ (eq_ix2 _)).trans (mask1 x1 b c))).trans (andi_ofBool _ _))) _) Ideal.ofBits_zero_f32).trans ?_
  rw [select_ofBool]
  simp only [Bool.and_eq_true, decide_eq_true_eq]

/-- The second softmax, masked to the square. -/
theorem out2_eq (b : Fin 8) (r c : Fin 512) :
    val_main_v75 (F := Ideal) x0 x1 (ix3 b r c)
      = if Below x1 b r ∧ Below x1 b c then val_main_v69 (F := Ideal) x0 x1 (ix3 b r c) else 0 := by
  rw [val_main_v75_apply, val_main_v74_apply, val_main_v73_apply, val_main_v72_apply, val_main_v71_apply, val_main_v70_apply,
    val_main_call5_v2_apply, val_main_call5_v1_apply, val_main_call5_v0_apply, val_main_cst_10_apply]
  refine (congr (congrFun (congrArg Scalar.select ((congr (congrArg IntOp.andi ((congrArg _ (eq_ix2 _)).trans (mask2 x1 b r)))
    ((congrArg _ (eq_ix2 _)).trans (mask2 x1 b c))).trans (andi_ofBool _ _))) _) Ideal.ofBits_zero_f32).trans ?_
  rw [select_ofBool]
  simp only [Bool.and_eq_true, decide_eq_true_eq]

/-- A row of a masked array whose unmasked entries are real has a real largest entry, when the mask is not empty. -/
theorem rowmax_real (X : S8x512x512.Idx → EReal) (init : S_.Idx → EReal) (hi : ∀ i, init i = ⊥) (b : Fin 8) (r c : Fin 512)
    (P : Fin 512 → Prop) (hon : ∀ k, P k → IsReal (X (ix3 b r k))) (hoff : ∀ k, ¬ P k → X (ix3 b r k) = ⊥) (hc : P c) :
    IsReal (Host.reduce (α := EReal) max X init reducesTo_S8x512x512_S8x512_d2 h_S_ (ix2 b r)) := by
  obtain ⟨h1, h2⟩ := rowmax X init hi b r
  refine isReal_of_ne (ne_of_gt ?_) (ne_of_lt (h2 fun k => ?_))
  · obtain ⟨x, hx⟩ := hon c hc
    exact lt_of_lt_of_le (by rw [hx]; exact EReal.bot_lt_coe x) (h1 c)
  · by_cases hk : P k
    · obtain ⟨x, hx⟩ := hon k hk
      rw [hx]; exact EReal.coe_lt_top x
    · rw [hoff k hk]; exact bot_lt_top

/-- The first masked softmax: positive on the square below the length, zero off it. -/
theorem out1_sign (b : Fin 8) (r c : Fin 512) :
    (Below x1 b r ∧ Below x1 b c → 0 < val_main_v35 (F := Ideal) x0 x1 x2 x3 (ix3 b r c))
      ∧ (¬ (Below x1 b r ∧ Below x1 b c) → val_main_v35 (F := Ideal) x0 x1 x2 x3 (ix3 b r c) = 0) := by
  rw [out1_eq]
  refine ⟨fun h => ?_, fun h => if_neg h⟩
  rw [if_pos h, soft1]
  have hon : ∀ k, Below x1 b k → IsReal (val_main_v20 (F := Ideal) x0 x1 x2 x3 (ix3 b r k)) := fun k hk => by
    rw [masked1, if_pos hk]; exact sim_real x0 x2 x3 b r k
  have hoff : ∀ k, ¬ Below x1 b k → val_main_v20 (F := Ideal) x0 x1 x2 x3 (ix3 b r k) = ⊥ := fun k hk => by
    rw [masked1, if_neg hk]
  exact (softmax_entry (fun k => val_main_v20 (F := Ideal) x0 x1 x2 x3 (ix3 b r k)) _ (Below x1 b)
    (rowmax_real _ (val_main_cst_1 (F := Ideal)) (fun _ => word_bot) b r c (Below x1 b) hon hoff h.2) hon hoff c h.2 c).1 h.2

/-- The second masked softmax, likewise, when the input is real. -/
theorem out2_sign (hx : ∀ i, IsReal (x0 i)) (b : Fin 8) (r c : Fin 512) :
    (Below x1 b r ∧ Below x1 b c → 0 < val_main_v75 (F := Ideal) x0 x1 (ix3 b r c))
      ∧ (¬ (Below x1 b r ∧ Below x1 b c) → val_main_v75 (F := Ideal) x0 x1 (ix3 b r c) = 0) := by
  rw [out2_eq]
  refine ⟨fun h => ?_, fun h => if_neg h⟩
  rw [if_pos h, soft2]
  have hon : ∀ k, Below x1 b k → IsReal (val_main_v60 (F := Ideal) x0 x1 (ix3 b r k)) := fun k hk => by
    rw [masked2, if_pos hk]; exact dis_real x0 hx b r k
  have hoff : ∀ k, ¬ Below x1 b k → val_main_v60 (F := Ideal) x0 x1 (ix3 b r k) = ⊥ := fun k hk => by
    rw [masked2, if_neg hk]
  exact (softmax_entry (fun k => val_main_v60 (F := Ideal) x0 x1 (ix3 b r k)) _ (Below x1 b)
    (rowmax_real _ (val_main_cst_8 (F := Ideal)) (fun _ => word_bot) b r c (Below x1 b) hon hoff h.2) hon hoff c h.2 c).1 h.2

/-- The weighted sum of the two softmaxes: positive on the square below the length, zero off it. -/
theorem score_sign (hx : ∀ i, IsReal (x0 i)) (b : Fin 8) (r c : Fin 512) :
    (Below x1 b r ∧ Below x1 b c → 0 < val_main_v78 (F := Ideal) x0 x1 x2 x3 (ix3 b r c))
      ∧ (¬ (Below x1 b r ∧ Below x1 b c) → val_main_v78 (F := Ideal) x0 x1 x2 x3 (ix3 b r c) = 0) := by
  obtain ⟨d, hd, he⟩ := word_half
  have e : val_main_v78 (F := Ideal) x0 x1 x2 x3 (ix3 b r c)
      = val_main_v35 (F := Ideal) x0 x1 x2 x3 (ix3 b r c) + (d : EReal) * val_main_v75 (F := Ideal) x0 x1 (ix3 b r c) := by
    rw [val_main_v78_apply, val_main_v77_apply, val_main_v76_apply, val_main_cst_11_apply, ← he]
    rfl
  rw [e]
  have h1 := out1_sign x0 x1 x2 x3 b r c
  have h2 := out2_sign x0 x1 hx b r c
  refine ⟨fun h => ?_, fun h => ?_⟩
  · exact lt_of_lt_of_le (h1.1 h) (le_add_of_nonneg_right (mul_nonneg (EReal.coe_nonneg.mpr hd.le) (h2.1 h).le))
  · rw [h1.2 h, h2.2 h, mul_zero, add_zero]

/-- The scores with the diagonal set to zero. -/
theorem zeroed_eq (b : Fin 8) (r c : Fin 512) :
    val_main_v85 (F := Ideal) x0 x1 x2 x3 (ix3 b r c) = if r = c then 0 else val_main_v78 (F := Ideal) x0 x1 x2 x3 (ix3 b r c) := by
  rw [val_main_v85_apply, val_main_call6_v2_apply, val_main_v84_apply, val_main_v83_apply, val_main_v82_apply, val_main_v81_apply,
    val_main_v80_apply, val_main_v79_apply, val_main_v79_apply, val_main_call6_v3_apply, val_main_call6_v1_apply,
    val_main_call6_v0_apply, val_main_cst_12_apply]
  refine (congrFun (congr (congrArg Scalar.select (eq_ofNat r.isLt c.isLt)) Ideal.ofBits_zero_f32) _).trans ?_
  rw [select_ofBool]
  simp only [decide_eq_true_eq, Fin.val_inj]

/-- The sort's key: positive on the square below the length off the diagonal, zero elsewhere. -/
theorem key_sign (hx : ∀ i, IsReal (x0 i)) (b : Fin 8) (r c : Fin 512) :
    (r ≠ c ∧ Below x1 b r ∧ Below x1 b c → 0 < val_main_v85 (F := Ideal) x0 x1 x2 x3 (ix3 b r c))
      ∧ (¬ (r ≠ c ∧ Below x1 b r ∧ Below x1 b c) → val_main_v85 (F := Ideal) x0 x1 x2 x3 (ix3 b r c) = 0) := by
  rw [zeroed_eq]
  have h := score_sign x0 x1 x2 x3 hx b r c
  refine ⟨fun hp => ?_, fun hp => ?_⟩
  · rw [if_neg hp.1]; exact h.1 hp.2
  · by_cases hrc : r = c
    · rw [if_pos hrc]
    · rw [if_neg hrc]; exact h.2 fun hb => hp ⟨hrc, hb⟩

end Values

end Cert.Scores

end
-- ==== Proof.Sort.lean ====
/-
  What a stable sort of a row of extended reals by `<` tells about the last ten places of the sorted row: a position
  with ten others sorting after it is not among them, and a row of equal values is not moved at all.
-/
module

public import Idealize.ShloMosaic.Lib.SortFacts
public import Idealize.ShloMosaic.Lib.SortPrefix
public import Mathlib.Data.EReal.Basic
public import Mathlib.Order.Interval.Finset.Fin

@[expose] public section

noncomputable section

open Idealize.ShloMosaic

namespace Cert.TopK

/-- The sort looks only at whether a later position goes before an earlier one, so relations that agree there sort alike. -/
theorem stableSort_later {n : ℕ} (R R' : Fin n → Fin n → Bool) (h : ∀ a b, a < b → R b a = R' b a) :
    ∀ l : List (Fin n), l.Pairwise (· < ·) → stableSort R l = stableSort R' l
  | [], _ => rfl
  | a :: l, hl => by
    rw [List.pairwise_cons] at hl
    show insertBefore R a (stableSort R l) = insertBefore R' a (stableSort R' l)
    rw [stableSort_later R R' h l hl.2]
    exact insertBefore_congr R R' a _ fun b hb => h a b (hl.1 b ((perm_stableSort R' l).mem_iff.mp hb))

/-- The same for the position a place of the sorted row comes from. -/
theorem sortedFrom_later {n : ℕ} (R R' : Fin n → Fin n → Bool) (h : ∀ a b, a < b → R b a = R' b a) :
    sortedFrom R = sortedFrom R' := by
  have hs : sortPositions n R = sortPositions n R' := stableSort_later R R' h _ (List.pairwise_lt_finRange n)
  funext k
  unfold sortedFrom
  simp only [List.get_eq_getElem]
  exact List.getElem_of_eq hs _

/-- The order of the sorted row: by value, then by position. -/
def before {n : ℕ} (key : Fin n → EReal) (k k' : Fin n) : Bool := decide (key k < key k')

/-- Of two places of the sorted row the earlier one has the smaller value, or the same value from an earlier position. -/
theorem order {n : ℕ} (key : Fin n → EReal) (i j : Fin n) (hij : i < j) :
    key (sortedFrom (before key) i) < key (sortedFrom (before key) j)
      ∨ (key (sortedFrom (before key) i) = key (sortedFrom (before key) j) ∧ sortedFrom (before key) i < sortedFrom (before key) j) := by
  classical
  have hB := StrictTotalBefore.of_key_then_position (fun a b : EReal => decide (a < b)) key
    (fun a => by simp) (fun a b c hab hbc => by simp only [decide_eq_true_eq] at *; exact hab.trans hbc)
    (fun a b => by simpa using lt_trichotomy a b)
  have e : sortedFrom (before key) = _ := sortedFrom_later (before key)
    (fun k k' : Fin n => decide (key k < key k') || (decide (key k = key k') && decide (k < k')))
    (fun a b hab => by simp [before, not_lt.mpr hab.le])
  have hn := sortedFrom_noInversion _ _ (fun a b h => hB.asymm a b h) (fun _ _ h => h) hB.negTrans i j hij
  rw [← e] at hn
  simp only [Bool.or_eq_false_iff, decide_eq_false_iff_not, Bool.and_eq_false_iff] at hn
  have hne : sortedFrom (before key) i ≠ sortedFrom (before key) j := fun h => hij.ne (sortedFrom_injective _ h)
  obtain ⟨h1, h2⟩ := hn
  rcases lt_or_eq_of_le (not_lt.mp h1) with h | h
  · exact Or.inl h
  · refine Or.inr ⟨h, ?_⟩
    rcases h2 with h2 | h2
    · exact absurd h.symm h2
    · exact lt_of_le_of_ne (not_lt.mp h2) hne

/-- A position with ten positions sorting after it does not come to one of the last ten of 512 places. -/
theorem not_top (key : Fin 512 → EReal) (i : Fin 512) (Q : Finset (Fin 512)) (hQ : 10 ≤ Q.card)
    (h : ∀ q ∈ Q, key i < key q ∨ (key i = key q ∧ i < q)) (k : Fin 512) (hk : 502 ≤ k.val) :
    sortedFrom (before key) k ≠ i := by
  classical
  intro hki
  have hsub : Q ⊆ (Finset.Ioi k).image (sortedFrom (before key)) := by
    intro q hq
    obtain ⟨j, hj⟩ := sortedFrom_surjective (before key) q
    refine Finset.mem_image.mpr ⟨j, Finset.mem_Ioi.mpr ?_, hj⟩
    by_contra hjk
    rcases lt_or_eq_of_le (not_lt.mp hjk) with hlt | heq
    · have ho := order key j k hlt
      rw [hj, hki] at ho
      rcases h q hq with h1 | ⟨h1, h1'⟩ <;> rcases ho with h2 | ⟨h2, h2'⟩
      · exact absurd h2 h1.asymm
      · rw [h2] at h1; exact lt_irrefl _ h1
      · rw [h1] at h2; exact lt_irrefl _ h2
      · exact absurd h2' h1'.asymm
    · rw [← heq, hj] at hki
      subst hki
      rcases h q hq with h1 | ⟨_, h1⟩ <;> exact lt_irrefl _ h1
  have hc := (Finset.card_le_card hsub).trans Finset.card_image_le
  rw [Fin.card_Ioi] at hc
  omega

/-- A row of equal values is left as it is. -/
theorem sorted_const {n : ℕ} (key : Fin n → EReal) (h : ∀ i j, key i = key j) (k : Fin n) : sortedFrom (before key) k = k := by
  have e : sortedFrom (before key) = sortedFrom (fun _ _ : Fin n => false) :=
    sortedFrom_later _ _ fun a b _ => by simp [before, h b a]
  have hl : ∀ l : List (Fin n), stableSort (fun _ _ : Fin n => false) l = l := by
    intro l
    induction l with
    | nil => rfl
    | cons a l ih =>
      show insertBefore _ a (stableSort _ l) = _
      rw [ih]
      cases l <;> rfl
  have hs : sortPositions n (fun _ _ : Fin n => false) = List.finRange n := hl _
  rw [e]
  unfold sortedFrom
  simp only [List.get_eq_getElem]
  rw [List.getElem_of_eq hs]
  simp

end Cert.TopK

end
-- ==== Proof.Nearest.lean ====
/-
  The reference's tenth nearest neighbour, read in closed form: a row below the larger of the length and 503 points to
  itself, every other row to position 502.
-/
module

public import proofs.«01_k».proof.Proof.Gen.ReferenceIdeal.Read
public import proofs.«01_k».proof.Proof.Scores
public import proofs.«01_k».proof.Proof.Sort

@[expose] public section

noncomputable section

open Idealize.ShloMosaic Idealize.ShloMosaic.ValueIdx Cert.ReferenceIdeal Cert.ReferenceIdeal.Gen Cert.ReferenceIdeal.Read Cert.Reals Cert.Scores Cert.TopK

namespace Cert.Nearest

/-- The sort's comparator is `<` on the keys. -/
theorem comparator_eq (l r : EReal × BitVec 32) : comparator_f32_i32_d2 (F := Ideal) l r = BitVec.ofBool (decide (l.1 < r.1)) := by
  obtain ⟨a, n⟩ := l
  obtain ⟨b, k⟩ := r
  have hsel : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) = x := by
    intro x
    have h1 : FloatOps.cmpf (F := Ideal) (φ := .f32) .une x x = BitVec.ofBool false := by
      show Ideal.cmp .une x x = _
      simp [Ideal.cmp]
    have h2 : FloatOps.cmpf (F := Ideal) (φ := .f32) .oeq x (FloatOps.ofBits (F := Ideal) .f32 0x00000000#32) = BitVec.ofBool (decide (x = 0)) := by
      show Ideal.cmp .oeq x (Ideal.ofBits .f32 0x00000000#32) = _
      rw [Ideal.ofBits_zero_f32]
      simp [Ideal.cmp]
    rw [h1, h2, select_ofBool, select_ofBool]
    by_cases hx : x = 0
    · simp only [hx, decide_true, if_true]
      exact Ideal.ofBits_zero_f32
    · simp [hx]
  unfold comparator_f32_i32_d2
  dsimp only
  refine (congr (congrArg (FloatOps.cmpfTotal (F := Ideal) (φ := .f32) .lt) (hsel a)) (hsel b)).trans ?_
  show Ideal.cmp .olt a b = _
  simp [Ideal.cmp]

/-- An `or` of bits is one exactly when some bit is. -/
theorem fold_ori {ι : Type} (f : ι → BitVec 1) (s : Finset ι) : s.fold IntOp.ori 0#1 f = 1#1 ↔ ∃ k ∈ s, f k = 1#1 := by
  classical
  have hor : ∀ p q : BitVec 1, IntOp.ori p q = 1#1 ↔ p = 1#1 ∨ q = 1#1 := by decide
  induction s using Finset.induction_on with
  | empty => simp
  | insert a s ha ih => rw [Finset.fold_insert ha, hor, Finset.exists_mem_insert]; exact or_congr Iff.rfl ih

/-- A bit made from a proposition is one exactly when it holds. -/
theorem bit_iff (P : Prop) [Decidable P] : BitVec.ofBool (decide P) = 1#1 ↔ P := by
  by_cases h : P <;> simp [h]

/-- Place `k` from the end of a row. -/
def back (k : Fin 10) : Fin 512 := ⟨511 - k.val, by omega⟩

/-- A row's `or` is one exactly when some bit of the row is. -/
theorem rowany (X : S8x512x10.Idx → BitVec 1) (init : S_.Idx → BitVec 1) (hi : ∀ i, init i = 0#1) (b : Fin 8) (r : Fin 512) :
    Host.reduce IntOp.ori X init reducesTo_S8x512x10_S8x512_d2 h_S_ (ix2 b r) = 1#1 ↔ ∃ k : Fin 10, X (ix3 b r k) = 1#1 := by
  have hR : S8x512x10.Reduces [2] S8x512 := by decide
  have e := Host.reduce_eq_fold_single IntOp.ori X init reducesTo_S8x512x10_S8x512_d2 hR h_S_ (ix2 b r)
  have el : ∀ k : Fin 10, hR.lift (ix2 b r) k = ix3 b r k := fun k =>
    funext fun a => Fin.ext (by match a with | ⟨0, _⟩ => rfl | ⟨1, _⟩ => rfl | ⟨2, _⟩ => rfl)
  rw [e, hi, fold_ori]
  exact ⟨fun ⟨k, _, h⟩ => ⟨k, (congrArg X (el k)).symm.trans h⟩, fun ⟨k, h⟩ => ⟨k, Finset.mem_univ _, (congrArg X (el k)).trans h⟩⟩

section Values
variable (x0 : (⟨S8x512x256, .f32⟩ : BufTy).Contents (Elt Ideal)) (x1 : (⟨S8, .i32⟩ : BufTy).Contents (Elt Ideal))
  (x2 x3 : (⟨S256x128, .f32⟩ : BufTy).Contents (Elt Ideal))

/-- The keys of one row. -/
abbrev key (b : Fin 8) (r : Fin 512) : Fin 512 → EReal := fun c => val_main_v85 (F := Ideal) x0 x1 x2 x3 (ix3 b r c)

/-- The position each place of a sorted row comes from. -/
abbrev perm (b : Fin 8) (r : Fin 512) : Fin 512 → Fin 512 := sortedFrom (before (key x0 x1 x2 x3 b r))

/-- The argsort, read. -/
theorem argsort_eq (b : Fin 8) (r c : Fin 512) :
    val_main_v86 (F := Ideal) x0 x1 x2 x3 (ix3 b r c) = BitVec.ofNat 32 (perm x0 x1 x2 x3 b r c).val := by
  have hal : ∀ k : Fin 512, Shape.Idx.along (s := S8x512x512) (ix3 b r c) (2 : Fin 3) k = ix3 b r k := fun k =>
    funext fun a => by
      unfold Shape.Idx.along
      match a with
      | ⟨0, _⟩ => rfl
      | ⟨1, _⟩ => rfl
      | ⟨2, _⟩ => rfl
  have hrel : (fun k k' : Fin 512 => comparator_f32_i32_d2 (F := Ideal)
        (val_main_v85 (F := Ideal) x0 x1 x2 x3 (Shape.Idx.along (s := S8x512x512) (ix3 b r c) (2 : Fin 3) k),
          val_main_call7_v1 (F := Ideal) (Shape.Idx.along (s := S8x512x512) (ix3 b r c) (2 : Fin 3) k))
        (val_main_v85 (F := Ideal) x0 x1 x2 x3 (Shape.Idx.along (s := S8x512x512) (ix3 b r c) (2 : Fin 3) k'),
          val_main_call7_v1 (F := Ideal) (Shape.Idx.along (s := S8x512x512) (ix3 b r c) (2 : Fin 3) k')) == 1#1)
      = before (key x0 x1 x2 x3 b r) := by
    funext k k'
    rw [hal k, hal k', comparator_eq]
    unfold before
    cases decide (key x0 x1 x2 x3 b r k < key x0 x1 x2 x3 b r k') <;> rfl
  have h : val_main_v86 (F := Ideal) x0 x1 x2 x3 (ix3 b r c)
      = val_main_call7_v1 (F := Ideal) (Shape.Idx.along (s := S8x512x512) (ix3 b r c) (2 : Fin 3) (perm x0 x1 x2 x3 b r c)) := by
    unfold perm
    rw [← hrel]
    rfl
  rw [h, hal, val_main_call7_v1_apply, val_main_call7_v0_apply]

/-- The ten last places of the sorted row, the last one first. -/
theorem top_eq (b : Fin 8) (r : Fin 512) (k : Fin 10) :
    val_main_v88 (F := Ideal) x0 x1 x2 x3 (ix3 b r k) = BitVec.ofNat 32 (perm x0 x1 x2 x3 b r (back k)).val := by
  rw [val_main_v88_apply, ← argsort_eq]
  unfold val_main_v87
  refine congrArg (val_main_v86 (F := Ideal) x0 x1 x2 x3) (funext fun a => Fin.ext ?_)
  match a with
  | ⟨0, _⟩ => rfl
  | ⟨1, _⟩ => rfl
  | ⟨2, _⟩ => show 512 - (k.val + 1) = 511 - k.val; omega

/-- Whether one of those ten places holds the row's own number. -/
theorem hit_eq (b : Fin 8) (r : Fin 512) (k : Fin 10) :
    val_main_v92 (F := Ideal) x0 x1 x2 x3 (ix3 b r k) = BitVec.ofBool (decide (perm x0 x1 x2 x3 b r (back k) = r)) := by
  rw [val_main_v92_apply, top_eq, val_main_v91_apply, val_main_v90_apply, val_main_v89_apply, val_main_v79_apply]
  refine (eq_ofNat (perm x0 x1 x2 x3 b r (back k)).isLt r.isLt).trans ?_
  simp only [Fin.val_inj]

/-- Whether any of them does. -/
theorem any_eq (b : Fin 8) (r : Fin 512) :
    val_main_v93 (F := Ideal) x0 x1 x2 x3 (ix2 b r) = 1#1 ↔ ∃ k : Fin 10, perm x0 x1 x2 x3 b r (back k) = r := by
  refine (rowany (val_main_v92 (F := Ideal) x0 x1 x2 x3) (val_main_c (F := Ideal)) (fun _ => rfl) b r).trans ?_
  refine exists_congr fun k => ?_
  rw [hit_eq]
  exact bit_iff _

/-- The tenth of those places. -/
theorem tenth_eq (b : Fin 8) (r : Fin 512) :
    val_main_v95 (F := Ideal) x0 x1 x2 x3 (ix2 b r) = BitVec.ofNat 32 (perm x0 x1 x2 x3 b r ⟨502, by omega⟩).val := by
  rw [val_main_v95_apply, val_main_v94_apply]
  refine Eq.trans (congrArg (val_main_v88 (F := Ideal) x0 x1 x2 x3) (funext fun a => Fin.ext ?_)) (top_eq x0 x1 x2 x3 b r ⟨9, by omega⟩)
  have hb := b.isLt
  have hr := r.isLt
  match a with
  | ⟨0, _⟩ => show (b.val * 512 + r.val) / 512 = b.val; omega
  | ⟨1, _⟩ => show (b.val * 512 + r.val) / 1 % 512 = r.val; omega
  | ⟨2, _⟩ => rfl

/-- The row a center's hyperedge goes to. -/
def target (b : Fin 8) (r : Fin 512) : Fin 512 := if (r.val : ℤ) < max (x1 (ix1 b)).toInt 503 then r else ⟨502, by omega⟩

/-- The chosen neighbour, in closed form. -/
theorem kth_eq (hx : ∀ i, IsReal (x0 i)) (b : Fin 8) (r : Fin 512) :
    val_main_v96 (F := Ideal) x0 x1 x2 x3 (ix2 b r) = BitVec.ofNat 32 (target x1 b r).val := by
  have hkey := key_sign x0 x1 x2 x3 hx b r
  have hself : key x0 x1 x2 x3 b r r = 0 := (hkey r).2 fun h => h.1 rfl
  have hv : val_main_v96 (F := Ideal) x0 x1 x2 x3 (ix2 b r)
      = if val_main_v93 (F := Ideal) x0 x1 x2 x3 (ix2 b r) = 1#1 then BitVec.ofNat 32 (perm x0 x1 x2 x3 b r ⟨502, by omega⟩).val
        else BitVec.ofNat 32 r.val := by
    rw [val_main_v96_apply, tenth_eq, val_main_call8_v0_apply, val_main_v79_apply]
    rfl
  have hout : ∀ Q : Finset (Fin 512), 10 ≤ Q.card →
      (∀ q ∈ Q, key x0 x1 x2 x3 b r r < key x0 x1 x2 x3 b r q ∨ (key x0 x1 x2 x3 b r r = key x0 x1 x2 x3 b r q ∧ r < q)) →
      val_main_v96 (F := Ideal) x0 x1 x2 x3 (ix2 b r) = BitVec.ofNat 32 r.val := fun Q hQ h => by
    rw [hv, if_neg]
    rw [any_eq]
    rintro ⟨k, hk⟩
    exact not_top (key x0 x1 x2 x3 b r) r Q hQ h (back k) (by have := k.isLt; show 502 ≤ 511 - k.val; omega) hk
  by_cases h1 : r.val ≤ 501
  · rw [hout (Finset.Ioi r) (by rw [Fin.card_Ioi]; omega) fun q hq => ?_]
    · unfold target
      rw [if_pos]
      exact lt_of_lt_of_le (by omega) (le_max_right _ _)
    · by_cases hp : r ≠ q ∧ Below x1 b r ∧ Below x1 b q
      · left; rw [hself]; exact (hkey q).1 hp
      · right; exact ⟨by rw [hself]; exact ((hkey q).2 hp).symm, Finset.mem_Ioi.mp hq⟩
  by_cases h2 : Below x1 b r
  · rw [hout (Finset.Iio r) (by rw [Fin.card_Iio]; omega) fun q hq => ?_]
    · unfold target
      rw [if_pos]
      exact lt_of_lt_of_le h2 (le_max_left _ _)
    · have hq' : q < r := Finset.mem_Iio.mp hq
      left
      rw [hself]
      refine (hkey q).1 ⟨hq'.ne', h2, lt_trans ?_ h2⟩
      exact_mod_cast hq'
  · have hz : ∀ q, key x0 x1 x2 x3 b r q = 0 := fun q => (hkey q).2 fun h => h2 h.2.1
    have hid : ∀ k, perm x0 x1 x2 x3 b r k = k := sorted_const _ fun i j => (hz i).trans (hz j).symm
    have hr := r.isLt
    have hany : val_main_v93 (F := Ideal) x0 x1 x2 x3 (ix2 b r) = 1#1 := by
      rw [any_eq]
      refine ⟨⟨511 - r.val, by omega⟩, ?_⟩
      rw [hid]
      exact Fin.ext (by show 511 - (511 - r.val) = r.val; omega)
    rw [hv, if_pos hany, hid]
    unfold target
    by_cases h3 : (r.val : ℤ) < max (x1 (ix1 b)).toInt 503
    · rw [if_pos h3]
      rcases lt_max_iff.mp h3 with h | h
      · exact absurd h h2
      · have : r.val = 502 := by omega
        rw [this]
    · rw [if_neg h3]

end Values

end Cert.Nearest

end
-- ==== Proof.Laplacian.lean ====
/-
  The reference's result in closed form: every hyperedge has one vertex, so the normalised matrix is diagonal, one at
  a vertex some hyperedge names and zero elsewhere.
-/
module

public import proofs.«01_k».proof.Proof.Gen.ReferenceIdeal.Read
public import proofs.«01_k».proof.Proof.Nearest

@[expose] public section

noncomputable section

open Idealize.ShloMosaic Idealize.ShloMosaic.ValueIdx Cert.ReferenceIdeal Cert.ReferenceIdeal.Gen Cert.ReferenceIdeal.Read Cert.Reals Cert.Scores Cert.Nearest

namespace Cert.Laplacian

/-- A finite sum of reals is the same sum in the extended reals. -/
theorem coe_sum_fin {n : ℕ} (f : Fin n → ℝ) : ((∑ k, f k : ℝ) : EReal) = ∑ k, (f k : EReal) := by
  induction n with
  | zero => simp
  | succ n ih => rw [Fin.sum_univ_succ, Fin.sum_univ_succ, EReal.coe_add, ih]

/-- The ordered comparison with zero. -/
theorem cmp_pos (x : EReal) : FloatOps.cmpf (F := Ideal) (φ := .f32) .ogt x (Ideal.ofBits .f32 0x00000000#32) = BitVec.ofBool (decide (0 < x)) := by
  show Ideal.cmp .ogt x _ = _
  rw [Ideal.ofBits_zero_f32]
  simp [Ideal.cmp]

/-- The incidence of vertex `a` with the hyperedge whose vertex is `t`. -/
def inc (t a : Fin 512) : ℝ := if t = a then 1 else 0

/-- A vertex's degree. -/
def degree (t : Fin 512 → Fin 512) (a : Fin 512) : ℝ := ∑ k, inc (t k) a

/-- The inverse root of a vertex's degree, zero where the degree is. -/
def scale (D : ℝ) : ℝ := if 0 < D then 1 / Real.sqrt D else 0

/-- An incidence is not negative. -/
theorem inc_nonneg (t a : Fin 512) : 0 ≤ inc t a := by unfold inc; split <;> norm_num

/-- A vertex's degree is positive exactly when some hyperedge names it. -/
theorem degree_pos (t : Fin 512 → Fin 512) (a : Fin 512) : 0 < degree t a ↔ ∃ k, t k = a := by
  unfold degree
  constructor
  · intro h
    by_contra hn
    have hz : ∑ k, inc (t k) a = 0 := Finset.sum_eq_zero fun k _ => by
      unfold inc; exact if_neg fun e => hn ⟨k, e⟩
    rw [hz] at h
    exact lt_irrefl _ h
  · rintro ⟨k, hk⟩
    refine lt_of_lt_of_le ?_ (Finset.single_le_sum (f := fun k => inc (t k) a) (fun k _ => inc_nonneg _ _) (Finset.mem_univ k))
    simp [inc, hk]

/-- Each hyperedge has one vertex. -/
theorem edge_degree (u : Fin 512) : ∑ a, inc u a = 1 := by
  unfold inc
  rw [Finset.sum_ite_eq]
  simp

/-- The normalised product of the incidences, in closed form. -/
theorem product_eq (t : Fin 512 → Fin 512) (a c : Fin 512) :
    (∑ k, scale (degree t a) * inc (t k) a * 1 * inc (t k) c) * scale (degree t c)
      = if a = c ∧ ∃ k, t k = a then 1 else 0 := by
  by_cases hac : a = c
  · subst hac
    have hsq : ∀ k, scale (degree t a) * inc (t k) a * 1 * inc (t k) a = scale (degree t a) * inc (t k) a := fun k => by
      unfold inc; split <;> simp
    rw [Finset.sum_congr rfl fun k _ => hsq k, ← Finset.mul_sum]
    change scale (degree t a) * degree t a * scale (degree t a) = _
    by_cases hp : 0 < degree t a
    · rw [if_pos ⟨rfl, (degree_pos t a).mp hp⟩]
      unfold scale
      rw [if_pos hp]
      have hs : Real.sqrt (degree t a) ≠ 0 := (Real.sqrt_pos.mpr hp).ne'
      have hm := Real.mul_self_sqrt hp.le
      field_simp
      rw [sq]; exact hm.symm
    · rw [if_neg fun h => hp ((degree_pos t a).mpr h.2)]
      unfold scale
      rw [if_neg hp]
      ring
  · rw [if_neg fun h => hac h.1]
    rw [Finset.sum_eq_zero fun k _ => ?_, zero_mul]
    unfold inc
    by_cases h : t k = a
    · rw [if_neg (fun e => hac (h.symm.trans e)), mul_zero]
    · rw [if_neg h]; ring

/-- The quotient of reals by a positive real. -/
theorem div_coe (x : ℝ) {d : ℝ} (hd : 0 < d) : Ideal.div (x : EReal) (d : EReal) = ((x / d : ℝ) : EReal) := by
  have h0 : (d : EReal) ≠ 0 := by exact_mod_cast hd.ne'
  unfold Ideal.div
  rw [if_neg h0, ← EReal.coe_inv, ← EReal.coe_mul, div_eq_mul_inv]

section Values
variable (x0 : (⟨S8x512x256, .f32⟩ : BufTy).Contents (Elt Ideal)) (x1 : (⟨S8, .i32⟩ : BufTy).Contents (Elt Ideal))
  (x2 x3 : (⟨S256x128, .f32⟩ : BufTy).Contents (Elt Ideal)) (hx : ∀ i, IsReal (x0 i))
include hx

/-- The incidence matrix. -/
theorem incidence_eq (b : Fin 8) (a k : Fin 512) :
    val_main_v97 (F := Ideal) x0 x1 x2 x3 (ix3 b a k) = ((inc (target x1 b k) a : ℝ) : EReal) := by
  have hbit : val_main_call9_v5 (F := Ideal) x0 x1 x2 x3 (ix3 b a k) = BitVec.ofBool (decide (target x1 b k = a)) := by
    rw [val_main_call9_v5_apply, val_main_call9_v3_apply, val_main_call9_v0_apply, val_main_call9_v4_apply,
      val_main_call9_v2_apply, val_main_call9_v1_apply]
    refine (congrFun (congrArg (IntOp.cmpi .eq) ((congrArg _ (eq_ix2 _)).trans (kth_eq x0 x1 x2 x3 hx b k))) _).trans ?_
    refine (eq_ofNat (target x1 b k).isLt a.isLt).trans ?_
    simp only [Fin.val_inj]
  rw [val_main_v97_apply, hbit]
  unfold inc
  by_cases h : target x1 b k = a
  · rw [decide_eq_true h, if_pos h]
    show (((BitVec.ofBool true).toNat : ℝ) : EReal) = _
    simp
  · rw [decide_eq_false h, if_neg h]
    show (((BitVec.ofBool false).toNat : ℝ) : EReal) = _
    simp

/-- The vertex degrees. -/
theorem vertex_eq (b : Fin 8) (a : Fin 512) :
    val_main_v98 (F := Ideal) x0 x1 x2 x3 (ix2 b a) = ((degree (target x1 b) a : ℝ) : EReal) := by
  rw [val_main_v98_apply, val_main_cst_13_apply]
  unfold degree
  rw [coe_sum_fin]
  refine (congr (congrArg (fun p q : EReal => p + q) Ideal.ofBits_zero_f32) (Finset.sum_congr rfl fun k _ => ?_)).trans (zero_add _)
  exact (congrArg _ (eq_ix3 _)).trans (incidence_eq x0 x1 x2 x3 hx b a k)

/-- The hyperedge degrees. -/
theorem edge_eq (b : Fin 8) (k : Fin 512) : val_main_v99 (F := Ideal) x0 x1 x2 x3 (ix2 b k) = 1 := by
  rw [val_main_v99_apply, val_main_cst_14_apply]
  refine (congr (congrArg (fun p q : EReal => p + q) Ideal.ofBits_zero_f32) (Finset.sum_congr rfl fun a _ => ?_)).trans
    ((zero_add _).trans (((coe_sum_fin fun a => inc (target x1 b k) a).symm).trans (by rw [edge_degree]; rfl)))
  exact (congrArg _ (eq_ix3 _)).trans (incidence_eq x0 x1 x2 x3 hx b a k)

/-- The inverse hyperedge degrees. -/
theorem inverse_edge_eq (b : Fin 8) (k : Fin 512) : val_main_v107 (F := Ideal) x0 x1 x2 x3 (ix2 b k) = 1 := by
  have h104 : val_main_v104 (F := Ideal) x0 x1 x2 x3 (ix2 b k) = 1 := by
    rw [val_main_v104_apply, val_main_v103_apply, val_main_v102_apply, val_main_cst_16_apply, edge_eq x0 x1 x2 x3 hx]
    refine (congrFun (congrFun (congrArg Scalar.select (cmp_pos 1)) _) _).trans ?_
    rw [select_ofBool]
    simp
  rw [val_main_v107_apply, val_main_v101_apply, val_main_v100_apply, val_main_cst_15_apply, edge_eq x0 x1 x2 x3 hx,
    val_main_v106_apply, val_main_v105_apply, val_main_cst_18_apply, h104]
  refine (congrFun (congrFun (congrArg Scalar.select (cmp_pos 1)) _) _).trans ?_
  rw [select_ofBool]
  simp only [zero_lt_one, decide_true, if_true]
  refine (congrFun (congrArg Ideal.div word_one) _).trans ?_
  simp [Ideal.div]

/-- The inverse roots of the vertex degrees. -/
theorem scale_eq (b : Fin 8) (a : Fin 512) :
    val_main_v116 (F := Ideal) x0 x1 x2 x3 (ix2 b a) = ((scale (degree (target x1 b) a) : ℝ) : EReal) := by
  have h112 : 0 < degree (target x1 b) a → val_main_v112 (F := Ideal) x0 x1 x2 x3 (ix2 b a) = ((degree (target x1 b) a : ℝ) : EReal) := fun hp => by
    rw [val_main_v112_apply, val_main_v111_apply, val_main_v110_apply, val_main_cst_21_apply, vertex_eq x0 x1 x2 x3 hx]
    refine (congrFun (congrFun (congrArg Scalar.select (cmp_pos _)) _) _).trans ?_
    rw [select_ofBool, decide_eq_true (EReal.coe_pos.mpr hp), if_pos rfl]
  rw [val_main_v116_apply, val_main_v109_apply, val_main_v108_apply, val_main_cst_20_apply, vertex_eq x0 x1 x2 x3 hx,
    val_main_call13_v2_apply, val_main_call13_v1_apply, val_main_call13_v0_apply, val_main_cst_24_apply]
  refine (congrFun (congrFun (congrArg Scalar.select (cmp_pos _)) _) _).trans ?_
  rw [select_ofBool]
  unfold scale
  by_cases hp : 0 < degree (target x1 b) a
  · rw [decide_eq_true (EReal.coe_pos.mpr hp), if_pos rfl, if_pos hp, val_main_v115_apply, val_main_v114_apply,
      val_main_cst_23_apply, val_main_v113_apply, h112 hp]
    have hr : Ideal.sqrt ((degree (target x1 b) a : ℝ) : EReal) = ((Real.sqrt (degree (target x1 b) a) : ℝ) : EReal) := by
      rw [Ideal.sqrt_coe, if_neg (not_lt.mpr hp.le)]
    refine (congr (congrArg Ideal.div word_one) hr).trans ?_
    exact div_coe 1 (Real.sqrt_pos.mpr hp)
  · have hp' : ¬ (0 : EReal) < ((degree (target x1 b) a : ℝ) : EReal) := fun h => hp (EReal.coe_pos.mp h)
    rw [decide_eq_false hp', if_neg hp]
    exact Ideal.ofBits_zero_f32

/-- The reference's result: the mask below the larger of the length and 503, on the diagonal. -/
theorem result_eq (b : Fin 8) (a c : Fin 512) :
    val_main_v127 (F := Ideal) x0 x1 x2 x3 (ix3 b a c)
      = if a.val = c.val ∧ (a.val : ℤ) < max (x1 (ix1 b)).toInt 503 then 1 else 0 := by
  have hterm : ∀ k : Fin 512, val_main_v122 (F := Ideal) x0 x1 x2 x3 (ix3 b a k)
      = ((scale (degree (target x1 b) a) * inc (target x1 b k) a * 1 : ℝ) : EReal) := fun k => by
    rw [val_main_v122_apply, val_main_v121_apply, val_main_v120_apply, val_main_v119_apply, val_main_v118_apply, val_main_v117_apply,
      incidence_eq x0 x1 x2 x3 hx, EReal.coe_mul, EReal.coe_mul]
    exact congrArg₂ (fun p q : EReal => p * q)
      (congrFun (congrArg (fun p q : EReal => p * q) ((congrArg _ (eq_ix2 _)).trans (scale_eq x0 x1 x2 x3 hx b a))) _)
      ((congrArg _ (eq_ix2 _)).trans (inverse_edge_eq x0 x1 x2 x3 hx b k))
  have hdot : val_main_v124 (F := Ideal) x0 x1 x2 x3 (ix3 b a c)
      = ((∑ k, scale (degree (target x1 b) a) * inc (target x1 b k) a * 1 * inc (target x1 b k) c : ℝ) : EReal) := by
    rw [val_main_v124_apply, coe_sum_fin]
    refine Finset.sum_congr rfl fun k _ => ?_
    rw [EReal.coe_mul, val_main_v123_apply]
    exact congrArg₂ (fun p q : EReal => p * q) ((congrArg _ (eq_ix3 _)).trans (hterm k))
      ((congrArg _ (eq_ix3 _)).trans (incidence_eq x0 x1 x2 x3 hx b c k))
  have hex : (∃ k, target x1 b k = a) ↔ (a.val : ℤ) < max (x1 (ix1 b)).toInt 503 := by
    constructor
    · rintro ⟨k, hk⟩
      unfold target at hk
      by_cases h : (k.val : ℤ) < max (x1 (ix1 b)).toInt 503
      · rw [if_pos h] at hk; rw [← hk]; exact h
      · rw [if_neg h] at hk; rw [← hk]; exact lt_of_lt_of_le (by norm_num) (le_max_right _ _)
    · intro h
      exact ⟨a, by unfold target; rw [if_pos h]⟩
  rw [val_main_v127_apply, hdot, val_main_v126_apply, val_main_v125_apply]
  refine (congrArg (fun q : EReal => _ * q) ((congrArg _ (eq_ix2 _)).trans (scale_eq x0 x1 x2 x3 hx b c))).trans ?_
  rw [← EReal.coe_mul, product_eq]
  by_cases h : a = c ∧ ∃ k, target x1 b k = a
  · rw [if_pos h, if_pos ⟨congrArg Fin.val h.1, hex.mp h.2⟩]; rfl
  · rw [if_neg h, if_neg fun h' => h ⟨Fin.ext h'.1, hex.mpr h'.2⟩]; rfl

end Values

end Cert.Laplacian

end
-- ==== Proof.Algebraic.lean ====
/-
  The kernel and the reference have one result: both are the diagonal mask, read at each position.
-/
module

public import proofs.«01_k».proof.Defs
public import proofs.«01_k».proof.Proof.KernelValue
public import proofs.«01_k».proof.Proof.Laplacian
public import proofs.«01_k».proof.Proof.Gen.ReferenceIdeal.Run

@[expose] public section

noncomputable section

open Idealize.ShloMosaic Idealize.ShloMosaic.ValueIdx Idealize.SL.Sem Cert.Reals Cert.Scores

namespace Cert.Algebraic

/-- The word of `+∞`. -/
theorem word_top : Ideal.ofBits .f32 0x7F800000#32 = ⊤ := by simp [Ideal.ofBits, Ideal.ieee]

/-- A number strictly between the two infinities, by the two comparisons of the precondition, is real. -/
theorem isReal_of_bits {x : EReal}
    (h : IntOp.andi (Ideal.cmp .ogt x (Ideal.ofBits .f32 0xFF800000#32)) (Ideal.cmp .olt x (Ideal.ofBits .f32 0x7F800000#32)) = 1#1) :
    IsReal x := by
  rw [word_bot, word_top] at h
  have e1 : Ideal.cmp .ogt x ⊥ = BitVec.ofBool (decide (⊥ < x)) := rfl
  have e2 : Ideal.cmp .olt x ⊤ = BitVec.ofBool (decide (x < ⊤)) := rfl
  rw [e1, e2, andi_ofBool] at h
  by_cases h1 : ⊥ < x
  · by_cases h2 : x < ⊤
    · exact isReal_of_ne h1.ne' h2.ne
    · rw [decide_eq_false h2, Bool.and_false] at h; exact absurd h (by decide)
  · rw [decide_eq_false h1, Bool.false_and] at h; exact absurd h (by decide)

/-- The precondition says every entry of the input is real. -/
theorem input_real [Cert.Pre_finite_input.Facts] (x0 : FVec Ideal Cert.Pre_finite_input.S8x512x256 .f32)
    (x1 : IVec Cert.Pre_finite_input.S8 32) (x2 x3 : FVec Ideal Cert.Pre_finite_input.S256x128 .f32)
    (h : Cert.Pre_finite_input.fn (F := Ideal) x0 x1 x2 x3 = fun _ => 1#1) (i : Cert.Pre_finite_input.S8x512x256.Idx) : IsReal (x0 i) :=
  isReal_of_bits (congrFun h i)

/-- The reference's result array is the kernel's, on arguments that agree and a real input. -/
theorem value_eq (m : (ℓ : Loc Cert.KernelIdeal.nD Cert.KernelIdeal.τ Cert.KernelIdeal.sig) → Buf (Elt Ideal) ℓ) (c : Dev Cert.KernelIdeal.nD)
    (x0 : FVec Ideal Cert.ReferenceIdeal.S8x512x256 .f32) (x1 : IVec Cert.ReferenceIdeal.S8 32)
    (x2 x3 : FVec Ideal Cert.ReferenceIdeal.S256x128 .f32)
    (hx : ∀ i, IsReal (x0 i)) (h1 : x1 = m ((c.tc : Thread Cert.KernelIdeal.nD Cert.KernelIdeal.τ).loc Cert.KernelIdeal.main_arg1)) :
    Cert.ReferenceIdeal.Read.val_main_v127 (F := Ideal) x0 x1 x2 x3 = Cert.KernelIdeal.Value.result m c := by
  funext i
  refine (congrArg _ (eq_ix3 i)).trans ((Cert.Laplacian.result_eq x0 x1 x2 x3 hx (i 0) (i 1) (i 2)).trans ?_)
  refine Cert.KernelIdeal.Value.maskAt_congr ?_ rfl rfl
  rw [h1]
  exact (congrArg _ (eq_ix1 _)).symm

/-- Under a finite input the kernel and the reference end with one result, and their arguments unchanged. -/
theorem algebraic [hP : Cert.Pre_finite_input.Facts] :
    Cert.algebraic_KernelIdeal_ReferenceIdeal_pre_finite_input (hKernelIdeal := Cert.KernelIdeal.Gen.facts)
      (hReferenceIdeal := Cert.ReferenceIdeal.Gen.facts) (hPre_finite_input := hP) := by
  intro m g m' g' hpre hargs
  refine ⟨fun c => Cert.KernelIdeal.Value.result m c, Cert.KernelIdeal.Value.run m g, ?_⟩
  refine (θ_run Cert.ReferenceIdeal.defs _ _).mono (fun r h c => ⟨?_, (h c).2⟩) (Cert.ReferenceIdeal.Value.run (F := Ideal) m' g')
  refine ((h c).1.trans (Cert.ReferenceIdeal.Read.val_main_v127_eq (StableHlo.launchContents m' c))).trans ?_
  refine value_eq m c _ _ _ _ (fun i => ?_) ((StableHlo.launchContents_devRef m' c Cert.ReferenceIdeal.main_arg1).trans (hargs c).2.1)
  have e := (StableHlo.launchContents_devRef m' c Cert.ReferenceIdeal.main_arg0).trans (hargs c).1
  have hr := input_real _ _ _ _ (hpre c) i
  exact (congrArg IsReal (congrFun e i)).mpr hr

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Algebraic
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The one shape fact the precondition states. -/
theorem preFacts : Cert.Pre_finite_input.Facts where
  bcast_S_S8x512x256 := by decide

/-- The reference terminates with its arguments unchanged and every counter at zero. -/
theorem frameRef : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Every claim of the certificate. -/
theorem claim : Cert.Claim := ⟨Cert.Kernel.Gen.facts, Cert.KernelIdeal.Gen.facts, Cert.ReferenceIdeal.Gen.facts, preFacts,
  fun m ρ _ => Cert.Kernel.Gen.frame m ρ trivial, fun m ρ _ => Cert.KernelIdeal.Gen.frame m ρ trivial,
  fun m ρ _ => Cert.KernelIdeal.Gen.frame m ρ trivial, frameRef, fun m ρ _ => frameRef m ρ trivial, trivial,
  Cert.Algebraic.algebraic (hP := preFacts)⟩

end Cert.Proof

end
